-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x128x128x128 : Shape := ⟨4, ![4, 128, 128, 128]⟩
abbrev S5x128 : Shape := ⟨2, ![5, 128]⟩
abbrev S640x128 : Shape := ⟨2, ![640, 128]⟩
abbrev S640 : Shape := ⟨1, ![640]⟩
abbrev S64x640 : Shape := ⟨2, ![64, 640]⟩
abbrev S64 : Shape := ⟨1, ![64]⟩
abbrev S64x128 : Shape := ⟨2, ![64, 128]⟩
abbrev S128x128x4x4 : Shape := ⟨4, ![128, 128, 4, 4]⟩
abbrev S128 : Shape := ⟨1, ![128]⟩
abbrev S128x512 : Shape := ⟨2, ![128, 512]⟩
abbrev S32 : Shape := ⟨1, ![32]⟩
abbrev S128x32 : Shape := ⟨2, ![128, 32]⟩
abbrev S2 : Shape := ⟨1, ![2]⟩
abbrev S128x128 : Shape := ⟨2, ![128, 128]⟩
abbrev S128x128x3x3 : Shape := ⟨4, ![128, 128, 3, 3]⟩
abbrev S_ : Shape := ⟨0, ![]⟩

class Facts : Prop where
  bcast_S_S640 : S_.BroadcastsInDim S640 (![] : Fin 0 → Fin S640.rank)
  bcast_S_S128 : S_.BroadcastsInDim S128 (![] : Fin 0 → Fin S128.rank)
  bcast_S_S128x512 : S_.BroadcastsInDim S128x512 (![] : Fin 0 → Fin S128x512.rank)
  bcast_S_S32 : S_.BroadcastsInDim S32 (![] : Fin 0 → Fin S32.rank)
  bcast_S_S128x32 : S_.BroadcastsInDim S128x32 (![] : Fin 0 → Fin S128x32.rank)

variable [Facts]

def fn {F : FTy → Type} [FloatOps F] (main_arg0 : FVec F S4x128x128x128 .f32) (main_arg1 : FVec F S4x128x128x128 .f32) (main_arg2 : FVec F S5x128 .f32) (main_arg3 : FVec F S640x128 .f32) (main_arg4 : FVec F S640 .f32) (main_arg5 : FVec F S64x640 .f32) (main_arg6 : FVec F S64 .f32) (main_arg7 : FVec F S64x128 .f32) (main_arg8 : FVec F S64 .f32) (main_arg9 : FVec F S128x128x4x4 .f32) (main_arg10 : FVec F S128 .f32) (main_arg11 : FVec F S128 .f32) (main_arg12 : FVec F S128 .f32) (main_arg13 : FVec F S128x512 .f32) (main_arg14 : FVec F S32 .f32) (main_arg15 : FVec F S32 .f32) (main_arg16 : FVec F S128x32 .f32) (main_arg17 : FVec F S128 .f32) (main_arg18 : FVec F S2 .f32) (main_arg19 : FVec F S128x128 .f32) (main_arg20 : FVec F S128x128x3x3 .f32) (main_arg21 : FVec F S128 .f32) (main_arg22 : FVec F S128 .f32) : IVec S640 1 × IVec S128 1 × IVec S128 1 × IVec S128x512 1 × IVec S32 1 × IVec S128x32 1 :=
  let main_cst : FVec F S_ .f32 := constant S_ .f32 0x00000000#32
  let main_v0 : FVec F S640 .f32 := broadcastInDim S640 ![] bcast_S_S640 main_cst
  let main_v1 : IVec S640 1 := cmpf .oeq main_arg4 main_v0
  let main_v2 : FVec F S128 .f32 := Host.absf main_arg11
  let main_cst_0 : FVec F S_ .f32 := constant S_ .f32 0x7F800000#32
  let main_v3 : FVec F S128 .f32 := broadcastInDim S128 ![] bcast_S_S128 main_cst_0
  let main_v4 : IVec S128 1 := cmpf .olt main_v2 main_v3
  let main_v5 : FVec F S128 .f32 := Host.absf main_arg12
  let main_cst_1 : FVec F S_ .f32 := constant S_ .f32 0x7F800000#32
  let main_v6 : FVec F S128 .f32 := broadcastInDim S128 ![] bcast_S_S128 main_cst_1
  let main_v7 : IVec S128 1 := cmpf .olt main_v5 main_v6
  let main_v8 : FVec F S128x512 .f32 := Host.absf main_arg13
  let main_cst_2 : FVec F S_ .f32 := constant S_ .f32 0x7F800000#32
  let main_v9 : FVec F S128x512 .f32 := broadcastInDim S128x512 ![] bcast_S_S128x512 main_cst_2
  let main_v10 : IVec S128x512 1 := cmpf .olt main_v8 main_v9
  let main_v11 : FVec F S32 .f32 := Host.absf main_arg14
  let main_cst_3 : FVec F S_ .f32 := constant S_ .f32 0x7F800000#32
  let main_v12 : FVec F S32 .f32 := broadcastInDim S32 ![] bcast_S_S32 main_cst_3
  let main_v13 : IVec S32 1 := cmpf .olt main_v11 main_v12
  let main_v14 : FVec F S128x32 .f32 := Host.absf main_arg16
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  (main_v1, main_v4, main_v7, main_v10, main_v13, main_v16)
-- ==== Kernel.lean ====
abbrev S4x128x128x128 : Shape := ⟨4, ![4, 128, 128, 128]⟩
abbrev S5x128 : Shape := ⟨2, ![5, 128]⟩
abbrev S640x128 : Shape := ⟨2, ![640, 128]⟩
abbrev S640 : Shape := ⟨1, ![640]⟩
abbrev S64x640 : Shape := ⟨2, ![64, 640]⟩
abbrev S64 : Shape := ⟨1, ![64]⟩
abbrev S64x128 : Shape := ⟨2, ![64, 128]⟩
abbrev S128x128x4x4 : Shape := ⟨4, ![128, 128, 4, 4]⟩
abbrev S128 : Shape := ⟨1, ![128]⟩
abbrev S128x512 : Shape := ⟨2, ![128, 512]⟩
abbrev S32 : Shape := ⟨1, ![32]⟩
abbrev S128x32 : Shape := ⟨2, ![128, 32]⟩
abbrev S2 : Shape := ⟨1, ![2]⟩
abbrev S128x128 : Shape := ⟨2, ![128, 128]⟩
abbrev S128x128x3x3 : Shape := ⟨4, ![128, 128, 3, 3]⟩
abbrev S1x640 : Shape := ⟨2, ![1, 640]⟩
abbrev S1x64 : Shape := ⟨2, ![1, 64]⟩
abbrev S1x32 : Shape := ⟨2, ![1, 32]⟩
abbrev S1x128 : Shape := ⟨2, ![1, 128]⟩
abbrev S1x2 : Shape := ⟨2, ![1, 2]⟩
abbrev S128x640 : Shape := ⟨2, ![128, 640]⟩
abbrev S128x2048 : Shape := ⟨2, ![128, 2048]⟩
abbrev S1x1x2 : Shape := ⟨3, ![1, 1, 2]⟩
abbrev S1 : Shape := ⟨1, ![1]⟩
abbrev S1x1x1 : Shape := ⟨3, ![1, 1, 1]⟩
abbrev S1x1 : Shape := ⟨2, ![1, 1]⟩
abbrev S640x64 : Shape := ⟨2, ![640, 64]⟩
abbrev S128x64 : Shape := ⟨2, ![128, 64]⟩
abbrev S32x128 : Shape := ⟨2, ![32, 128]⟩
abbrev S32x1 : Shape := ⟨2, ![32, 1]⟩
abbrev S4x4x128x128 : Shape := ⟨4, ![4, 4, 128, 128]⟩
abbrev S2048x128 : Shape := ⟨2, ![2048, 128]⟩
abbrev S16x16 : Shape := ⟨2, ![16, 16]⟩
abbrev S_ : Shape := ⟨0, ![]⟩
abbrev S16x32x16 : Shape := ⟨3, ![16, 32, 16]⟩
abbrev S512x16 : Shape := ⟨2, ![512, 16]⟩
abbrev S3x3x128x128 : Shape := ⟨4, ![3, 3, 128, 128]⟩
abbrev S1x128x64x128 : Shape := ⟨4, ![1, 128, 64, 128]⟩
abbrev S1x64x128x128 : Shape := ⟨4, ![1, 64, 128, 128]⟩
abbrev S128x64x128 : Shape := ⟨3, ![128, 64, 128]⟩
abbrev S128x8192 : Shape := ⟨2, ![128, 8192]⟩
abbrev S8192 : Shape := ⟨1, ![8192]⟩
abbrev S1x8192 : Shape := ⟨2, ![1, 8192]⟩
abbrev S8192x640 : Shape := ⟨2, ![8192, 640]⟩
abbrev S8192x128 : Shape := ⟨2, ![8192, 128]⟩
abbrev S16x4x32x4x128 : Shape := ⟨5, ![16, 4, 32, 4, 128]⟩
abbrev S16x32x4x4x128 : Shape := ⟨5, ![16, 32, 4, 4, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S512x16x128 : Shape := ⟨3, ![512, 16, 128]⟩
abbrev S512x16x1 : Shape := ⟨3, ![512, 16, 1]⟩
abbrev S1x1x128 : Shape := ⟨3, ![1, 1, 128]⟩
abbrev S64x128x128 : Shape := ⟨3, ![64, 128, 128]⟩
abbrev S1x1x128x128 : Shape := ⟨4, ![1, 1, 128, 128]⟩
abbrev S1x128x128 : Shape := ⟨3, ![1, 128, 128]⟩
abbrev S66x128x128 : Shape := ⟨3, ![66, 128, 128]⟩
abbrev S66x1x128 : Shape := ⟨3, ![66, 1, 128]⟩
abbrev S66x127x128 : Shape := ⟨3, ![66, 127, 128]⟩
abbrev S8448x128 : Shape := ⟨2, ![8448, 128]⟩

abbrev nBuf : Space → Nat
  | .hbm => 63
  | .vmem => 57
  | .smem => 0
  | _ => 0

abbrev bufTy : (tb : Table) → Fin (tcTables nBuf tb) → BufTy
  | .hbm, ⟨0, _⟩ => ⟨S4x128x128x128, .f32⟩
  | .hbm, ⟨1, _⟩ => ⟨S4x128x128x128, .f32⟩
  | .hbm, ⟨2, _⟩ => ⟨S5x128, .f32⟩
  | .hbm, ⟨3, _⟩ => ⟨S640x128, .f32⟩
  | .hbm, ⟨4, _⟩ => ⟨S640, .f32⟩
  | .hbm, ⟨5, _⟩ => ⟨S64x640, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S128x128x4x4, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x512, .f32⟩
  | .hbm, ⟨14, _⟩ => ⟨S32, .f32⟩
  | .hbm, ⟨15, _⟩ => ⟨S32, .f32⟩
  | .hbm, ⟨16, _⟩ => ⟨S128x32, .f32⟩
  | .hbm, ⟨17, _⟩ => ⟨S128, .f32⟩
  | .hbm, ⟨18, _⟩ => ⟨S2, .f32⟩
  | .hbm, ⟨19, _⟩ => ⟨S128x128, .f32⟩
  | .hbm, ⟨20, _⟩ => ⟨S128x128x3x3, .f32⟩
  | .hbm, ⟨21, _⟩ => ⟨S128, .f32⟩
  | .hbm, ⟨22, _⟩ => ⟨S128, .f32⟩
  | .hbm, ⟨23, _⟩ => ⟨S1x640, .f32⟩
  | .hbm, ⟨24, _⟩ => ⟨S1x64, .f32⟩
  | .hbm, ⟨25, _⟩ => ⟨S1x64, .f32⟩
  | .hbm, ⟨26, _⟩ => ⟨S1x32, .f32⟩
  | .hbm, ⟨27, _⟩ => ⟨S1x32, .f32⟩
  | .hbm, ⟨28, _⟩ => ⟨S1x128, .f32⟩
  | .hbm, ⟨29, _⟩ => ⟨S1x2, .f32⟩
  | .hbm, ⟨30, _⟩ => ⟨S1x128, .f32⟩
  | .hbm, ⟨31, _⟩ => ⟨S1x128, .f32⟩
  | .hbm, ⟨32, _⟩ => ⟨S128x640, .f32⟩
  | .hbm, ⟨33, _⟩ => ⟨S640x128, .f32⟩
  | .hbm, ⟨34, _⟩ => ⟨S128x128, .f32⟩
  | .hbm, ⟨35, _⟩ => ⟨S1x128, .f32⟩
  | .hbm, ⟨36, _⟩ => ⟨S128x2048, .f32⟩
  | .hbm, ⟨37, _⟩ => ⟨S1x128, .f32⟩
  | .hbm, ⟨38, _⟩ => ⟨S1x128, .f32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S4x4x128x128, .f32⟩
  | .hbm, ⟨43, _⟩ => ⟨S2048x128, .f32⟩
  | .hbm, ⟨44, _⟩ => ⟨S16x16, .i32⟩
  | .hbm, ⟨45, _⟩ => ⟨S16x16, .i32⟩
  | .hbm, ⟨46, _⟩ => ⟨S_, .i32⟩
  | .hbm, ⟨47, _⟩ => ⟨S16x16, .i32⟩
  | .hbm, ⟨48, _⟩ => ⟨S16x16, .i32⟩
  | .hbm, ⟨49, _⟩ => ⟨S16x16, .i1⟩
  | .hbm, ⟨50, _⟩ => ⟨S16x16, .f32⟩
  | .hbm, ⟨51, _⟩ => ⟨S16x32x16, .f32⟩
  | .hbm, ⟨52, _⟩ => ⟨S512x16, .f32⟩
  | .hbm, ⟨53, _⟩ => ⟨S_, .f32⟩
  | .hbm, ⟨54, _⟩ => ⟨S512x16, .f32⟩
  | .hbm, ⟨55, _⟩ => ⟨S512x16, .f32⟩
  | .hbm, ⟨56, _⟩ => ⟨S3x3x128x128, .f32⟩
  | .hbm, ⟨57, _⟩ => ⟨S1x640, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S4x128x128x128, .bf16⟩
  | .hbm, ⟨62, _⟩ => ⟨S4x128x128x128, .f32⟩
  | .local _ .vmem, ⟨0, _⟩ => ⟨S1x640, .f32⟩
  | .local _ .vmem, ⟨1, _⟩ => ⟨S640x128, .f32⟩
  | .local _ .vmem, ⟨2, _⟩ => ⟨S64x640, .f32⟩
  | .local _ .vmem, ⟨3, _⟩ => ⟨S1x64, .f32⟩
  | .local _ .vmem, ⟨4, _⟩ => ⟨S64x128, .f32⟩
  | .local _ .vmem, ⟨5, _⟩ => ⟨S1x64, .f32⟩
  | .local _ .vmem, ⟨6, _⟩ => ⟨S128x512, .f32⟩
  | .local _ .vmem, ⟨7, _⟩ => ⟨S1x32, .f32⟩
  | .local _ .vmem, ⟨8, _⟩ => ⟨S1x32, .f32⟩
  | .local _ .vmem, ⟨9, _⟩ => ⟨S128x32, .f32⟩
  | .local _ .vmem, ⟨10, _⟩ => ⟨S1x128, .f32⟩
  | .local _ .vmem, ⟨11, _⟩ => ⟨S1x2, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S128x640, .f32⟩
  | .local _ .vmem, ⟨16, _⟩ => ⟨S640x128, .f32⟩
  | .local _ .vmem, ⟨17, _⟩ => ⟨S128x128, .f32⟩
  | .local _ .vmem, ⟨18, _⟩ => ⟨S1x128, .f32⟩
  | .local _ .vmem, ⟨19, _⟩ => ⟨S128x2048, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128x64x128, .f32⟩
  | .local _ .vmem, ⟨26, _⟩ => ⟨S1x128x64x128, .f32⟩
  | .local _ .vmem, ⟨27, _⟩ => ⟨S1x128x64x128, .f32⟩
  | .local _ .vmem, ⟨28, _⟩ => ⟨S1x128x64x128, .f32⟩
  | .local _ .vmem, ⟨29, _⟩ => ⟨S128x640, .f32⟩
  | .local _ .vmem, ⟨30, _⟩ => ⟨S1x640, .f32⟩
  | .local _ .vmem, ⟨31, _⟩ => ⟨S640x128, .f32⟩
  | .local _ .vmem, ⟨32, _⟩ => ⟨S128x128, .f32⟩
  | .local _ .vmem, ⟨33, _⟩ => ⟨S1x128, .f32⟩
  | .local _ .vmem, ⟨34, _⟩ => ⟨S2048x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x512, .f32⟩
  | .local _ .vmem, ⟨39, _⟩ => ⟨S512x16, .f32⟩
  | .local _ .vmem, ⟨40, _⟩ => ⟨S128x2048, .f32⟩
  | .local _ .vmem, ⟨41, _⟩ => ⟨S1x128, .f32⟩
  | .local _ .vmem, ⟨42, _⟩ => ⟨S1x128, .f32⟩
  | .local _ .vmem, ⟨43, _⟩ => ⟨S128x128, .f32⟩
  | .local _ .vmem, ⟨44, _⟩ => ⟨S1x64x128x128, .bf16⟩
  | .local _ .vmem, ⟨45, _⟩ => ⟨S1x64x128x128, .bf16⟩
  | .local _ .vmem, ⟨46, _⟩ => ⟨S1x64x128x128, .bf16⟩
  | .local _ .vmem, ⟨47, _⟩ => ⟨S1x64x128x128, .bf16⟩
  | .local _ .vmem, ⟨48, _⟩ => ⟨S1x64x128x128, .bf16⟩
  | .local _ .vmem, ⟨49, _⟩ => ⟨S1x64x128x128, .bf16⟩
  | .local _ .vmem, ⟨50, _⟩ => ⟨S1x64x128x128, .bf16⟩
  | .local _ .vmem, ⟨51, _⟩ => ⟨S1x64x128x128, .bf16⟩
  | .local _ .vmem, ⟨52, _⟩ => ⟨S3x3x128x128, .f32⟩
  | .local _ .vmem, ⟨53, _⟩ => ⟨S1x128, .f32⟩
  | .local _ .vmem, ⟨54, _⟩ => ⟨S1x128, .f32⟩
  | .local _ .vmem, ⟨55, _⟩ => ⟨S1x128x64x128, .f32⟩
  | .local _ .vmem, ⟨56, _⟩ => ⟨S1x128x64x128, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9_0 : Ref sig .tc := ⟨.hbm, 32, rfl⟩
abbrev main_v9_1 : Ref sig .tc := ⟨.hbm, 33, rfl⟩
abbrev main_v9_2 : Ref sig .tc := ⟨.hbm, 34, rfl⟩
abbrev main_v9_3 : Ref sig .tc := ⟨.hbm, 35, rfl⟩
abbrev main_v9_4 : Ref sig .tc := ⟨.hbm, 36, rfl⟩
abbrev main_v9_5 : Ref sig .tc := ⟨.hbm, 37, rfl⟩
abbrev main_v9_6 : Ref sig .tc := ⟨.hbm, 38, rfl⟩
abbrev main_v9_7 : Ref sig .tc := ⟨.hbm, 39, rfl⟩
abbrev main_v9_8 : Ref sig .tc := ⟨.hbm, 40, rfl⟩
abbrev main_v9_9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_stg15_0 : Ref sig .tc := ⟨.vmem, 42, rfl⟩
abbrev cc1_stg16_0 : Ref sig .tc := ⟨.vmem, 43, rfl⟩
abbrev cc1_stg17_0 : Ref sig .tc := ⟨.vmem, 44, rfl⟩
abbrev cc1_stg17_1 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg4_0 : Ref sig .tc := ⟨.vmem, 53, rfl⟩
abbrev cc2_stg5_0 : Ref sig .tc := ⟨.vmem, 54, rfl⟩
abbrev cc2_stg6_0 : Ref sig .tc := ⟨.vmem, 55, rfl⟩
abbrev cc2_stg6_1 : Ref sig .tc := ⟨.vmem, 56, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem12_0 : DmaSem sig := 39
abbrev cc1_sem13_0 : DmaSem sig := 40
abbrev cc1_sem14_0 : DmaSem sig := 41
abbrev cc1_sem15_0 : DmaSem sig := 42
abbrev cc1_sem16_0 : DmaSem sig := 43
abbrev cc1_sem17_0 : DmaSem sig := 44
abbrev cc1_sem17_1 : DmaSem sig := 45
abbrev cc2_sem0_0 : DmaSem sig := 46
abbrev cc2_sem0_1 : DmaSem sig := 47
abbrev cc2_sem1_0 : DmaSem sig := 48
abbrev cc2_sem1_1 : DmaSem sig := 49
abbrev cc2_sem2_0 : DmaSem sig := 50
abbrev cc2_sem2_1 : DmaSem sig := 51
abbrev cc2_sem3_0 : DmaSem sig := 52
abbrev cc2_sem4_0 : DmaSem sig := 53
abbrev cc2_sem5_0 : DmaSem sig := 54
abbrev cc2_sem6_0 : DmaSem sig := 55
abbrev cc2_sem6_1 : DmaSem sig := 56

abbrev nD : Nat := 1
abbrev τ : Topo := Topo.v7x

variable {F : FTy → Type} [FloatOps F]

abbrev grid0 : Pipeline.Grid := .none

abbrev stage0_0 : Fin 1 → Memref sig .tc .vmem S1x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x640 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S640x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev grid1 : Pipeline.Grid := ⟨2, ![4, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x640 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S640x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2048x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S128x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S512x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S128x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S128x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 2 → Memref sig .tc .vmem S1x64x128x128 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev grid2 : Pipeline.Grid := ⟨2, ![4, 2], ![false, false]⟩

def cc2_transform_0 (i : grid2.Coords) : Fin 4 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![arg0.toNat, v2.toNat, c0_i32_1.toNat, c0_i32_2.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  let c0_i32_2 : BitVec 32 := 0#32
  let c0_i32_3 : BitVec 32 := 0#32
  ![arg0.toNat, v2.toNat, c0_i32_1.toNat, c0_i32_2.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x64x128x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x128x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x128x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S3x3x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x128x64x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S4x128x128x128 : Shape := ⟨4, ![4, 128, 128, 128]⟩
abbrev S5x128 : Shape := ⟨2, ![5, 128]⟩
abbrev S640x128 : Shape := ⟨2, ![640, 128]⟩
abbrev S640 : Shape := ⟨1, ![640]⟩
abbrev S64x640 : Shape := ⟨2, ![64, 640]⟩
abbrev S64 : Shape := ⟨1, ![64]⟩
abbrev S64x128 : Shape := ⟨2, ![64, 128]⟩
abbrev S128x128x4x4 : Shape := ⟨4, ![128, 128, 4, 4]⟩
abbrev S128 : Shape := ⟨1, ![128]⟩
abbrev S128x512 : Shape := ⟨2, ![128, 512]⟩
abbrev S32 : Shape := ⟨1, ![32]⟩
abbrev S128x32 : Shape := ⟨2, ![128, 32]⟩
abbrev S2 : Shape := ⟨1, ![2]⟩
abbrev S128x128 : Shape := ⟨2, ![128, 128]⟩
abbrev S128x128x3x3 : Shape := ⟨4, ![128, 128, 3, 3]⟩
abbrev S_ : Shape := ⟨0, ![]⟩
abbrev S4x128x128 : Shape := ⟨3, ![4, 128, 128]⟩
abbrev S4x1x128x128 : Shape := ⟨4, ![4, 1, 128, 128]⟩
abbrev S640x4x128x128 : Shape := ⟨4, ![640, 4, 128, 128]⟩
abbrev S4x640x128x128 : Shape := ⟨4, ![4, 640, 128, 128]⟩
abbrev S1x640x1x1 : Shape := ⟨4, ![1, 640, 1, 1]⟩
abbrev S4x5x128x128x128 : Shape := ⟨5, ![4, 5, 128, 128, 128]⟩
abbrev S1x5x128x1x1 : Shape := ⟨5, ![1, 5, 128, 1, 1]⟩
abbrev S64x5x128 : Shape := ⟨3, ![64, 5, 128]⟩
abbrev S64x4x128x128 : Shape := ⟨4, ![64, 4, 128, 128]⟩
abbrev S4x64x128x128 : Shape := ⟨4, ![4, 64, 128, 128]⟩
abbrev S1x64x1x1 : Shape := ⟨4, ![1, 64, 1, 1]⟩
abbrev S4x128x32x4x32x4 : Shape := ⟨6, ![4, 128, 32, 4, 32, 4]⟩
abbrev S4x32x32x128 : Shape := ⟨4, ![4, 32, 32, 128]⟩
abbrev S1x1x1x128 : Shape := ⟨4, ![1, 1, 1, 128]⟩
abbrev S4x32x32 : Shape := ⟨3, ![4, 32, 32]⟩
abbrev S4x32x32x1 : Shape := ⟨4, ![4, 32, 32, 1]⟩
abbrev S4x32x32x512 : Shape := ⟨4, ![4, 32, 32, 512]⟩
abbrev S4x32x32x4x4x32 : Shape := ⟨6, ![4, 32, 32, 4, 4, 32]⟩
abbrev S4x32x4x32x4x32 : Shape := ⟨6, ![4, 32, 4, 32, 4, 32]⟩
abbrev S4x128x128x32 : Shape := ⟨4, ![4, 128, 128, 32]⟩
abbrev S4x128x128x1 : Shape := ⟨4, ![4, 128, 128, 1]⟩
abbrev S1x1x1x32 : Shape := ⟨4, ![1, 1, 1, 32]⟩
abbrev S4x32x128x128 : Shape := ⟨4, ![4, 32, 128, 128]⟩
abbrev S128x4x128x128 : Shape := ⟨4, ![128, 4, 128, 128]⟩
abbrev S1x128x1x1 : Shape := ⟨4, ![1, 128, 1, 1]⟩
abbrev S1 : Shape := ⟨1, ![1]⟩
abbrev S4x128x130x130 : Shape := ⟨4, ![4, 128, 130, 130]⟩
abbrev S128x128x1x1 : Shape := ⟨4, ![128, 128, 1, 1]⟩

abbrev nBuf : Space → Nat
  | .hbm => 263
  | .vmem => 0
  | .smem => 0
  | _ => 0

abbrev hbmTy0_0 (i : Nat) : BufTy := match i % 128 with
  | 0 => ⟨S4x128x128x128, .f32⟩
  | 1 => ⟨S4x128x128x128, .f32⟩
  | 2 => ⟨S5x128, .f32⟩
  | 3 => ⟨S640x128, .f32⟩
  | 4 => ⟨S640, .f32⟩
  | 5 => ⟨S64x640, .f32⟩
  | 6 => ⟨S64, .f32⟩
  | 7 => ⟨S64x128, .f32⟩
  | 8 => ⟨S64, .f32⟩
  | 9 => ⟨S128x128x4x4, .f32⟩
  | 10 => ⟨S128, .f32⟩
  | 11 => ⟨S128, .f32⟩
  | 12 => ⟨S128, .f32⟩
  | 13 => ⟨S128x512, .f32⟩
  | 14 => ⟨S32, .f32⟩
  | 15 => ⟨S32, .f32⟩
  | 16 => ⟨S128x32, .f32⟩
  | 17 => ⟨S128, .f32⟩
  | 18 => ⟨S2, .f32⟩
  | 19 => ⟨S128x128, .f32⟩
  | 20 => ⟨S128x128x3x3, .f32⟩
  | 21 => ⟨S128, .f32⟩
  | 22 => ⟨S128, .f32⟩
  | 23 => ⟨S4x128x128x128, .f32⟩
  | 24 => ⟨S_, .f32⟩
  | 25 => ⟨S4x128x128, .f32⟩
  | 26 => ⟨S4x1x128x128, .f32⟩
  | 27 => ⟨S4x1x128x128, .f32⟩
  | 28 => ⟨S_, .f32⟩
  | 29 => ⟨S4x1x128x128, .f32⟩
  | 30 => ⟨S4x1x128x128, .f32⟩
  | 31 => ⟨S4x128x128x128, .f32⟩
  | 32 => ⟨S4x128x128x128, .f32⟩
  | 33 => ⟨S640x4x128x128, .f32⟩
  | 34 => ⟨S4x640x128x128, .f32⟩
  | 35 => ⟨S1x640x1x1, .f32⟩
  | 36 => ⟨S4x640x128x128, .f32⟩
  | 37 => ⟨S4x640x128x128, .f32⟩
  | 38 => ⟨S4x640x128x128, .f32⟩
  | 39 => ⟨S4x640x128x128, .f32⟩
  | 40 => ⟨S_, .f32⟩
  | 41 => ⟨S4x640x128x128, .f32⟩
  | 42 => ⟨S4x640x128x128, .f32⟩
  | 43 => ⟨S_, .f32⟩
  | 44 => ⟨S4x640x128x128, .f32⟩
  | 45 => ⟨S4x640x128x128, .f32⟩
  | 46 => ⟨S4x5x128x128x128, .f32⟩
  | 47 => ⟨S1x5x128x1x1, .f32⟩
  | 48 => ⟨S4x5x128x128x128, .f32⟩
  | 49 => ⟨S4x5x128x128x128, .f32⟩
  | 50 => ⟨S64x5x128, .f32⟩
  | 51 => ⟨S64x4x128x128, .f32⟩
  | 52 => ⟨S4x64x128x128, .f32⟩
  | 53 => ⟨S1x64x1x1, .f32⟩
  | 54 => ⟨S4x64x128x128, .f32⟩
  | 55 => ⟨S4x64x128x128, .f32⟩
  | 56 => ⟨S64x4x128x128, .f32⟩
  | 57 => ⟨S4x64x128x128, .f32⟩
  | 58 => ⟨S1x64x1x1, .f32⟩
  | 59 => ⟨S4x64x128x128, .f32⟩
  | 60 => ⟨S4x64x128x128, .f32⟩
  | 61 => ⟨S4x128x128x128, .f32⟩
  | 62 => ⟨S4x128x32x4x32x4, .f32⟩
  | 63 => ⟨S4x32x32x128, .f32⟩
  | 64 => ⟨S1x1x1x128, .f32⟩
  | 65 => ⟨S4x32x32x128, .f32⟩
  | 66 => ⟨S4x32x32x128, .f32⟩
  | 67 => ⟨S_, .f32⟩
  | 68 => ⟨S4x32x32, .f32⟩
  | 69 => ⟨S4x32x32x1, .f32⟩
  | 70 => ⟨S_, .f32⟩
  | 71 => ⟨S4x32x32x1, .f32⟩
  | 72 => ⟨S4x32x32x1, .f32⟩
  | 73 => ⟨S_, .i32⟩
  | 74 => ⟨S_, .f32⟩
  | 75 => ⟨S4x32x32, .f32⟩
  | 76 => ⟨S4x32x32x1, .f32⟩
  | 77 => ⟨S_, .f32⟩
  | 78 => ⟨S4x32x32x1, .f32⟩
  | 79 => ⟨S4x32x32x1, .f32⟩
  | 80 => ⟨S4x32x32x128, .f32⟩
  | 81 => ⟨S4x32x32x128, .f32⟩
  | 82 => ⟨S4x32x32x128, .f32⟩
  | 83 => ⟨S_, .f32⟩
  | 84 => ⟨S_, .f32⟩
  | 85 => ⟨S_, .f32⟩
  | 86 => ⟨S_, .f32⟩
  | 87 => ⟨S4x32x32, .f32⟩
  | 88 => ⟨S4x32x32x1, .f32⟩
  | 89 => ⟨S4x32x32x1, .f32⟩
  | 90 => ⟨S4x32x32x1, .f32⟩
  | 91 => ⟨S_, .f32⟩
  | 92 => ⟨S_, .i1⟩
  | 93 => ⟨S_, .f32⟩
  | 94 => ⟨S_, .f32⟩
  | 95 => ⟨S4x32x32x1, .f32⟩
  | 96 => ⟨S4x32x32x1, .f32⟩
  | 97 => ⟨S4x32x32x128, .f32⟩
  | 98 => ⟨S4x32x32x128, .f32⟩
  | 99 => ⟨S_, .f32⟩
  | 100 => ⟨S4x32x32x1, .f32⟩
  | 101 => ⟨S4x32x32x1, .f32⟩
  | 102 => ⟨S4x32x32x1, .f32⟩
  | 103 => ⟨S4x32x32x128, .f32⟩
  | 104 => ⟨S4x32x32x128, .f32⟩
  | 105 => ⟨S1x1x1x128, .f32⟩
  | 106 => ⟨S4x32x32x128, .f32⟩
  | 107 => ⟨S4x32x32x128, .f32⟩
  | 108 => ⟨S1x1x1x128, .f32⟩
  | 109 => ⟨S4x32x32x128, .f32⟩
  | 110 => ⟨S4x32x32x128, .f32⟩
  | 111 => ⟨S4x32x32x512, .f32⟩
  | 112 => ⟨S4x32x32x4x4x32, .f32⟩
  | 113 => ⟨S4x32x4x32x4x32, .f32⟩
  | 114 => ⟨S4x128x128x32, .f32⟩
  | 115 => ⟨S_, .f32⟩
  | 116 => ⟨S4x128x128, .f32⟩
  | 117 => ⟨S4x128x128x1, .f32⟩
  | 118 => ⟨S_, .f32⟩
  | 119 => ⟨S4x128x128x1, .f32⟩
  | 120 => ⟨S4x128x128x1, .f32⟩
  | 121 => ⟨S_, .i32⟩
  | 122 => ⟨S_, .f32⟩
  | 123 => ⟨S4x128x128, .f32⟩
  | 124 => ⟨S4x128x128x1, .f32⟩
  | 125 => ⟨S_, .f32⟩
  | 126 => ⟨S4x128x128x1, .f32⟩
  | 127 => ⟨S4x128x128x1, .f32⟩
  | _ => ⟨S4x128x128x128, .f32⟩

abbrev hbmTy0_1 (i : Nat) : BufTy := match i % 128 with
  | 0 => ⟨S4x128x128x32, .f32⟩
  | 1 => ⟨S4x128x128x32, .f32⟩
  | 2 => ⟨S4x128x128x32, .f32⟩
  | 3 => ⟨S_, .f32⟩
  | 4 => ⟨S_, .f32⟩
  | 5 => ⟨S_, .f32⟩
  | 6 => ⟨S_, .f32⟩
  | 7 => ⟨S4x128x128, .f32⟩
  | 8 => ⟨S4x128x128x1, .f32⟩
  | 9 => ⟨S4x128x128x1, .f32⟩
  | 10 => ⟨S4x128x128x1, .f32⟩
  | 11 => ⟨S_, .f32⟩
  | 12 => ⟨S_, .i1⟩
  | 13 => ⟨S_, .f32⟩
  | 14 => ⟨S_, .f32⟩
  | 15 => ⟨S4x128x128x1, .f32⟩
  | 16 => ⟨S4x128x128x1, .f32⟩
  | 17 => ⟨S4x128x128x32, .f32⟩
  | 18 => ⟨S4x128x128x32, .f32⟩
  | 19 => ⟨S_, .f32⟩
  | 20 => ⟨S4x128x128x1, .f32⟩
  | 21 => ⟨S4x128x128x1, .f32⟩
  | 22 => ⟨S4x128x128x1, .f32⟩
  | 23 => ⟨S4x128x128x32, .f32⟩
  | 24 => ⟨S4x128x128x32, .f32⟩
  | 25 => ⟨S1x1x1x32, .f32⟩
  | 26 => ⟨S4x128x128x32, .f32⟩
  | 27 => ⟨S4x128x128x32, .f32⟩
  | 28 => ⟨S1x1x1x32, .f32⟩
  | 29 => ⟨S4x128x128x32, .f32⟩
  | 30 => ⟨S4x128x128x32, .f32⟩
  | 31 => ⟨S4x32x128x128, .f32⟩
  | 32 => ⟨S128x4x128x128, .f32⟩
  | 33 => ⟨S4x128x128x128, .f32⟩
  | 34 => ⟨S1x128x1x1, .f32⟩
  | 35 => ⟨S4x128x128x128, .f32⟩
  | 36 => ⟨S4x128x128x128, .f32⟩
  | 37 => ⟨S_, .f32⟩
  | 38 => ⟨S2, .f32⟩
  | 39 => ⟨S2, .f32⟩
  | 40 => ⟨S_, .f32⟩
  | 41 => ⟨S_, .f32⟩
  | 42 => ⟨S_, .f32⟩
  | 43 => ⟨S_, .f32⟩
  | 44 => ⟨S2, .f32⟩
  | 45 => ⟨S2, .f32⟩
  | 46 => ⟨S1, .f32⟩
  | 47 => ⟨S_, .f32⟩
  | 48 => ⟨S128x4x128x128, .f32⟩
  | 49 => ⟨S4x128x128x128, .f32⟩
  | 50 => ⟨S4x128x128x128, .f32⟩
  | 51 => ⟨S4x128x128x128, .f32⟩
  | 52 => ⟨S1, .f32⟩
  | 53 => ⟨S_, .f32⟩
  | 54 => ⟨S4x128x128x128, .f32⟩
  | 55 => ⟨S4x128x128x128, .f32⟩
  | 56 => ⟨S4x128x128x128, .f32⟩
  | 57 => ⟨S_, .i32⟩
  | 58 => ⟨S_, .f32⟩
  | 59 => ⟨S4x128x130x130, .f32⟩
  | 60 => ⟨S4x128x128x128, .f32⟩
  | 61 => ⟨S128x128x1x1, .f32⟩
  | 62 => ⟨S128x128, .f32⟩
  | 63 => ⟨S128x4x128x128, .f32⟩
  | 64 => ⟨S4x128x128x128, .f32⟩
  | 65 => ⟨S_, .f32⟩
  | 66 => ⟨S4x128x128x128, .f32⟩
  | 67 => ⟨S4x128x128x128, .f32⟩
  | 68 => ⟨S4x128x128x128, .f32⟩
  | 69 => ⟨S128x128x1x1, .f32⟩
  | 70 => ⟨S128x128, .f32⟩
  | 71 => ⟨S128x4x128x128, .f32⟩
  | 72 => ⟨S4x128x128x128, .f32⟩
  | 73 => ⟨S4x128x128x128, .f32⟩
  | 74 => ⟨S4x128x128x128, .f32⟩
  | 75 => ⟨S128x128x1x1, .f32⟩
  | 76 => ⟨S128x128, .f32⟩
  | 77 => ⟨S128x4x128x128, .f32⟩
  | 78 => ⟨S4x128x128x128, .f32⟩
  | 79 => ⟨S4x128x128x128, .f32⟩
  | 80 => ⟨S4x128x128x128, .f32⟩
  | 81 => ⟨S128x128x1x1, .f32⟩
  | 82 => ⟨S128x128, .f32⟩
  | 83 => ⟨S128x4x128x128, .f32⟩
  | 84 => ⟨S4x128x128x128, .f32⟩
  | 85 => ⟨S4x128x128x128, .f32⟩
  | 86 => ⟨S4x128x128x128, .f32⟩
  | 87 => ⟨S128x128x1x1, .f32⟩
  | 88 => ⟨S128x128, .f32⟩
  | 89 => ⟨S128x4x128x128, .f32⟩
  | 90 => ⟨S4x128x128x128, .f32⟩
  | 91 => ⟨S4x128x128x128, .f32⟩
  | 92 => ⟨S4x128x128x128, .f32⟩
  | 93 => ⟨S128x128x1x1, .f32⟩
  | 94 => ⟨S128x128, .f32⟩
  | 95 => ⟨S128x4x128x128, .f32⟩
  | 96 => ⟨S4x128x128x128, .f32⟩
  | 97 => ⟨S4x128x128x128, .f32⟩
  | 98 => ⟨S4x128x128x128, .f32⟩
  | 99 => ⟨S128x128x1x1, .f32⟩
  | 100 => ⟨S128x128, .f32⟩
  | 101 => ⟨S128x4x128x128, .f32⟩
  | 102 => ⟨S4x128x128x128, .f32⟩
  | 103 => ⟨S4x128x128x128, .f32⟩
  | 104 => ⟨S4x128x128x128, .f32⟩
  | 105 => ⟨S128x128x1x1, .f32⟩
  | 106 => ⟨S128x128, .f32⟩
  | 107 => ⟨S128x4x128x128, .f32⟩
  | 108 => ⟨S4x128x128x128, .f32⟩
  | 109 => ⟨S4x128x128x128, .f32⟩
  | 110 => ⟨S4x128x128x128, .f32⟩
  | 111 => ⟨S128x128x1x1, .f32⟩
  | 112 => ⟨S128x128, .f32⟩
  | 113 => ⟨S128x4x128x128, .f32⟩
  | 114 => ⟨S4x128x128x128, .f32⟩
  | 115 => ⟨S4x128x128x128, .f32⟩
  | 116 => ⟨S_, .f32⟩
  | 117 => ⟨S_, .f32⟩
  | 118 => ⟨S_, .f32⟩
  | 119 => ⟨S128, .f32⟩
  | 120 => ⟨S128, .f32⟩
  | 121 => ⟨S1x128x1x1, .f32⟩
  | 122 => ⟨S4x128x128x128, .f32⟩
  | 123 => ⟨S4x128x128x128, .f32⟩
  | 124 => ⟨S1x128x1x1, .f32⟩
  | 125 => ⟨S4x128x128x128, .f32⟩
  | 126 => ⟨S4x128x128x128, .f32⟩
  | 127 => ⟨S_, .f32⟩
  | _ => ⟨S4x128x128x128, .f32⟩

abbrev hbmTy0_2 (i : Nat) : BufTy := match i % 128 with
  | 0 => ⟨S_, .f32⟩
  | 1 => ⟨S_, .f32⟩
  | 2 => ⟨S4x128x128x128, .f32⟩
  | 3 => ⟨S4x128x128x128, .f32⟩
  | 4 => ⟨S_, .f32⟩
  | 5 => ⟨S4x128x128x128, .f32⟩
  | 6 => ⟨S4x128x128x128, .f32⟩
  | _ => ⟨S4x128x128x128, .f32⟩

abbrev hbmTy (i : Nat) : BufTy := match i / 128 with
  | 0 => hbmTy0_0 i
  | 1 => hbmTy0_1 i
  | 2 => hbmTy0_2 i
  | _ => ⟨S4x128x128x128, .f32⟩

abbrev bufTy : (tb : Table) → Fin (tcTables nBuf tb) → BufTy
  | .hbm, ⟨i, _⟩ => hbmTy i
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_2 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_v40 : Ref sig .tc := ⟨.hbm, 72, rfl⟩
abbrev main_c : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_cst_3 : Ref sig .tc := ⟨.hbm, 91, rfl⟩
abbrev main_call1_v13 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_4 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_5 : Ref sig .tc := ⟨.hbm, 115, rfl⟩
abbrev main_v59 : Ref sig .tc := ⟨.hbm, 116, rfl⟩
abbrev main_v60 : Ref sig .tc := ⟨.hbm, 117, rfl⟩
abbrev main_cst_6 : Ref sig .tc := ⟨.hbm, 118, rfl⟩
abbrev main_v61 : Ref sig .tc := ⟨.hbm, 119, rfl⟩
abbrev main_v62 : Ref sig .tc := ⟨.hbm, 120, rfl⟩
abbrev main_c_7 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_cst_1 : Ref sig .tc := ⟨.hbm, 132, rfl⟩
abbrev main_call2_v8 : Ref sig .tc := ⟨.hbm, 133, rfl⟩
abbrev main_call2_cst_2 : Ref sig .tc := ⟨.hbm, 134, rfl⟩
abbrev main_call2_v9 : Ref sig .tc := ⟨.hbm, 135, rfl⟩
abbrev main_call2_v10 : Ref sig .tc := ⟨.hbm, 136, rfl⟩
abbrev main_call2_v11 : Ref sig .tc := ⟨.hbm, 137, rfl⟩
abbrev main_call2_v12 : Ref sig .tc := ⟨.hbm, 138, rfl⟩
abbrev main_call2_cst_3 : Ref sig .tc := ⟨.hbm, 139, rfl⟩
abbrev main_call2_v13 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_cst_8 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_call3_cst : Ref sig .tc := ⟨.hbm, 165, rfl⟩
abbrev main_call3_v0 : Ref sig .tc := ⟨.hbm, 166, rfl⟩
abbrev main_v83 : Ref sig .tc := ⟨.hbm, 167, rfl⟩
abbrev main_cst_9 : Ref sig .tc := ⟨.hbm, 168, rfl⟩
abbrev main_v84 : Ref sig .tc := ⟨.hbm, 169, rfl⟩
abbrev main_cst_10 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_c_11 : Ref sig .tc := ⟨.hbm, 185, rfl⟩
abbrev main_call4_v0 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_cst_12 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_cst_13 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_14 : Ref sig .tc := ⟨.hbm, 255, rfl⟩
abbrev main_cst_15 : Ref sig .tc := ⟨.hbm, 256, rfl⟩
abbrev main_call5_v0 : Ref sig .tc := ⟨.hbm, 257, rfl⟩
abbrev main_call5_v1 : Ref sig .tc := ⟨.hbm, 258, rfl⟩
abbrev main_call5_v2 : Ref sig .tc := ⟨.hbm, 259, rfl⟩
abbrev main_call5_v3 : Ref sig .tc := ⟨.hbm, 260, rfl⟩
abbrev main_call5_v4 : Ref sig .tc := ⟨.hbm, 261, rfl⟩
abbrev main_v165 : Ref sig .tc := ⟨.hbm, 262, rfl⟩

abbrev nD : Nat := 1
abbrev τ : Topo := Topo.v7x

variable {F : FTy → Type} [FloatOps F]
-- ==== Proof.Frame.KernelIdeal.Prep.lean ====
/- The frame of `KernelIdeal`, in four modules (Prep, Fuse, Conv: one call each; Run: the whole launch). It is the text of the
   program's generated frame module, divided by call; the obligation `body_obligation0` of the first call, of 25 windows, is given
   a larger step limit. This module: the weight-preparing call. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle (`View.cover_of_tiled`) is checked coordinate by coordinate, so long axes need a deep recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__prep_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x2 := Rect.unit (s := S1x2) ![0, 0] S1x2.size inb_S1x2_S1x2_0_0
abbrev r0_1 : Rect S640x128 := Rect.unit (s := S640x128) ![0, 0] S640x128.size inb_S640x128_S640x128_0_0
abbrev r0_2 : Rect S128x640 := Rect.unit (s := S128x640) ![0, 0] S128x640.size inb_S128x640_S128x640_0_0
abbrev r0_3 : Rect S64x640 := Rect.unit (s := S64x640) ![0, 0] S64x640.size inb_S64x640_S64x640_0_0
abbrev r0_4 : Rect S1x640 := Rect.unit (s := S1x640) ![0, 0] S1x640.size inb_S1x640_S1x640_0_0
abbrev r0_5 : Rect S64x128 := Rect.unit (s := S64x128) ![0, 0] S64x128.size inb_S64x128_S64x128_0_0
abbrev r0_6 : Rect S128x128 := Rect.unit (s := S128x128) ![0, 0] S128x128.size inb_S128x128_S128x128_0_0
abbrev r0_7 : Rect S1x64 := Rect.unit (s := S1x64) ![0, 0] S1x64.size inb_S1x64_S1x64_0_0
abbrev r0_8 : Rect S1x128 := Rect.unit (s := S1x128) ![0, 0] S1x128.size inb_S1x128_S1x128_0_0
abbrev r0_9 : Rect S128x32 := Rect.unit (s := S128x32) ![0, 0] S128x32.size inb_S128x32_S128x32_0_0
abbrev r0_10 : Rect S1x32 := Rect.unit (s := S1x32) ![0, 0] S1x32.size inb_S1x32_S1x32_0_0
abbrev r0_11 : Rect S128x512 := Rect.unit (s := S128x512) ![0, 0] S128x32.size inb_S128x512_S128x32_0_0
abbrev r0_12 : Rect S128x2048 := Rect.unit (s := S128x2048) ![0, 0] S128x128.size inb_S128x2048_S128x128_0_0
abbrev r0_13 : Rect S128x512 := Rect.unit (s := S128x512) ![0, 32] S128x32.size inb_S128x512_S128x32_0_32
abbrev r0_14 : Rect S128x2048 := Rect.unit (s := S128x2048) ![0, 128] S128x128.size inb_S128x2048_S128x128_0_128
abbrev r0_15 : Rect S128x512 := Rect.unit (s := S128x512) ![0, 64] S128x32.size inb_S128x512_S128x32_0_64
abbrev r0_16 : Rect S128x2048 := Rect.unit (s := S128x2048) ![0, 256] S128x128.size inb_S128x2048_S128x128_0_256
abbrev r0_17 : Rect S128x512 := Rect.unit (s := S128x512) ![0, 96] S128x32.size inb_S128x512_S128x32_0_96
abbrev r0_18 : Rect S128x2048 := Rect.unit (s := S128x2048) ![0, 384] S128x128.size inb_S128x2048_S128x128_0_384
abbrev r0_19 : Rect S128x512 := Rect.unit (s := S128x512) ![0, 128] S128x32.size inb_S128x512_S128x32_0_128
abbrev r0_20 : Rect S128x2048 := Rect.unit (s := S128x2048) ![0, 512] S128x128.size inb_S128x2048_S128x128_0_512
abbrev r0_21 : Rect S128x512 := Rect.unit (s := S128x512) ![0, 160] S128x32.size inb_S128x512_S128x32_0_160
abbrev r0_22 : Rect S128x2048 := Rect.unit (s := S128x2048) ![0, 640] S128x128.size inb_S128x2048_S128x128_0_640
abbrev r0_23 : Rect S128x512 := Rect.unit (s := S128x512) ![0, 192] S128x32.size inb_S128x512_S128x32_0_192
abbrev r0_24 : Rect S128x2048 := Rect.unit (s := S128x2048) ![0, 768] S128x128.size inb_S128x2048_S128x128_0_768
abbrev r0_25 : Rect S128x512 := Rect.unit (s := S128x512) ![0, 224] S128x32.size inb_S128x512_S128x32_0_224
abbrev r0_26 : Rect S128x2048 := Rect.unit (s := S128x2048) ![0, 896] S128x128.size inb_S128x2048_S128x128_0_896
abbrev r0_27 : Rect S128x512 := Rect.unit (s := S128x512) ![0, 256] S128x32.size inb_S128x512_S128x32_0_256
abbrev r0_28 : Rect S128x2048 := Rect.unit (s := S128x2048) ![0, 1024] S128x128.size inb_S128x2048_S128x128_0_1024
abbrev r0_29 : Rect S128x512 := Rect.unit (s := S128x512) ![0, 288] S128x32.size inb_S128x512_S128x32_0_288
abbrev r0_30 : Rect S128x2048 := Rect.unit (s := S128x2048) ![0, 1152] S128x128.size inb_S128x2048_S128x128_0_1152
abbrev r0_31 : Rect S128x512 := Rect.unit (s := S128x512) ![0, 320] S128x32.size inb_S128x512_S128x32_0_320
abbrev r0_32 : Rect S128x2048 := Rect.unit (s := S128x2048) ![0, 1280] S128x128.size inb_S128x2048_S128x128_0_1280
abbrev r0_33 : Rect S128x512 := Rect.unit (s := S128x512) ![0, 352] S128x32.size inb_S128x512_S128x32_0_352
abbrev r0_34 : Rect S128x2048 := Rect.unit (s := S128x2048) ![0, 1408] S128x128.size inb_S128x2048_S128x128_0_1408
abbrev r0_35 : Rect S128x512 := Rect.unit (s := S128x512) ![0, 384] S128x32.size inb_S128x512_S128x32_0_384
abbrev r0_36 : Rect S128x2048 := Rect.unit (s := S128x2048) ![0, 1536] S128x128.size inb_S128x2048_S128x128_0_1536
abbrev r0_37 : Rect S128x512 := Rect.unit (s := S128x512) ![0, 416] S128x32.size inb_S128x512_S128x32_0_416
abbrev r0_38 : Rect S128x2048 := Rect.unit (s := S128x2048) ![0, 1664] S128x128.size inb_S128x2048_S128x128_0_1664
abbrev r0_39 : Rect S128x512 := Rect.unit (s := S128x512) ![0, 448] S128x32.size inb_S128x512_S128x32_0_448
abbrev r0_40 : Rect S128x2048 := Rect.unit (s := S128x2048) ![0, 1792] S128x128.size inb_S128x2048_S128x128_0_1792
abbrev r0_41 : Rect S128x512 := Rect.unit (s := S128x512) ![0, 480] S128x32.size inb_S128x512_S128x32_0_480
abbrev r0_42 : Rect S128x2048 := Rect.unit (s := S128x2048) ![0, 1920] S128x128.size inb_S128x2048_S128x128_0_1920

/-! ## What the body leaves in each output window's buffer -/

/-! ### Values of the body that the stores' payloads, spelt out, would write more than once

    Each is a vector the body binds (often a part call's result), stated over the input windows' blocks and
    numbered on from the skeleton's payload functions (`k0_pay33` …, after `k0_pay32`), so that
    `out0_W` and the values after it name it instead of spelling it out (`unfold_out out0_W` opens a canon
    with them, `unfold_payloads` opens them with the payloads); the comment after each is the printed function's
    name for the value (a count appended where that name is bound again). -/

def k0_pay33 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : FVec F S1x1 .f32 :=
  k0_pay7 (View.ld x11 r0_0) -- `v12`
def k0_pay34 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : FVec F S32x128 .f32 :=
  k0_pay14 (k0_pay33 x0 x1 x2 x3 x4 x5 x6 x7 x8 x9 x10 x11 x12 x13 x14) (View.ld x9 r0_9) (View.ld x7 r0_10) -- `v44`

/-- Window 15's staging buffer after the body, from the input windows' blocks: its 1 store as pieces, LAST
    FIRST (Lib/Pipeline/FrameBody.lean `View.canon`; the payloads are the skeleton's and the values stated above). -/
def out0_15 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S128x640 .f32 :=
  View.canon [⟨r0_2, k0_pay8 (View.ld x1 r0_1)⟩]

/-- Its stores tile the buffer (checked by evaluation), so they cover it. -/
theorem cover0_15 (p0 : Vec F S128x640 .f32) (y : S128x640.Idx) :
    ∃ pc ∈ ([⟨r0_2, p0⟩] : List (View.Piece (Elt F) S128x640 .f32)), y ∈ pc.1.set :=
  View.cover_of_tiled [⟨r0_2, p0⟩] S128x640.size (by rfl) y

/-- Window 16's staging buffer after the body, from the input windows' blocks: its 1 store as pieces, LAST
    FIRST (Lib/Pipeline/FrameBody.lean `View.canon`; the payloads are the skeleton's and the values stated above). -/
def out0_16 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S640x128 .f32 :=
  View.canon [⟨r0_1, k0_pay9 (View.ld x2 r0_3) (View.ld x0 r0_4)⟩]

/-- Its stores tile the buffer (checked by evaluation), so they cover it. -/
theorem cover0_16 (p0 : Vec F S640x128 .f32) (y : S640x128.Idx) :
    ∃ pc ∈ ([⟨r0_1, p0⟩] : List (View.Piece (Elt F) S640x128 .f32)), y ∈ pc.1.set :=
  View.cover_of_tiled [⟨r0_1, p0⟩] S640x128.size (by rfl) y

/-- Window 17's staging buffer after the body, from the input windows' blocks: its 1 store as pieces, LAST
    FIRST (Lib/Pipeline/FrameBody.lean `View.canon`; the payloads are the skeleton's and the values stated above). -/
def out0_17 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S128x128 .f32 :=
  View.canon [⟨r0_6, k0_pay10 (View.ld x4 r0_5)⟩]

/-- Its stores tile the buffer (checked by evaluation), so they cover it. -/
theorem cover0_17 (p0 : Vec F S128x128 .f32) (y : S128x128.Idx) :
    ∃ pc ∈ ([⟨r0_6, p0⟩] : List (View.Piece (Elt F) S128x128 .f32)), y ∈ pc.1.set :=
  View.cover_of_tiled [⟨r0_6, p0⟩] S128x128.size (by rfl) y

/-- Window 18's staging buffer after the body, from the input windows' blocks: its 1 store as pieces, LAST
    FIRST (Lib/Pipeline/FrameBody.lean `View.canon`; the payloads are the skeleton's and the values stated above). -/
def out0_18 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S1x128 .f32 :=
  View.canon [⟨r0_8, k0_pay12 (k0_pay11 (View.ld x3 r0_7)) (View.ld x5 r0_7)⟩]

/-- Its stores tile the buffer (checked by evaluation), so they cover it. -/
theorem cover0_18 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- Window 19's staging buffer after the body, from the input windows' blocks: its 16 stores as pieces, LAST
    FIRST (Lib/Pipeline/FrameBody.lean `View.canon`; the payloads are the skeleton's and the values stated above). -/
def out0_19 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S128x2048 .f32 :=
  View.canon [⟨r0_42, k0_pay30 (k0_pay34 x0 x1 x2 x3 x4 x5 x6 x7 x8 x9 x10 x11 x12 x13 x14) (View.ld x6 r0_41)⟩,
    ⟨r0_40, k0_pay29 (k0_pay34 x0 x1 x2 x3 x4 x5 x6 x7 x8 x9 x10 x11 x12 x13 x14) (View.ld x6 r0_39)⟩,
    ⟨r0_38, k0_pay28 (k0_pay34 x0 x1 x2 x3 x4 x5 x6 x7 x8 x9 x10 x11 x12 x13 x14) (View.ld x6 r0_37)⟩,
    ⟨r0_36, k0_pay27 (k0_pay34 x0 x1 x2 x3 x4 x5 x6 x7 x8 x9 x10 x11 x12 x13 x14) (View.ld x6 r0_35)⟩,
    ⟨r0_34, k0_pay26 (k0_pay34 x0 x1 x2 x3 x4 x5 x6 x7 x8 x9 x10 x11 x12 x13 x14) (View.ld x6 r0_33)⟩,
    ⟨r0_32, k0_pay25 (k0_pay34 x0 x1 x2 x3 x4 x5 x6 x7 x8 x9 x10 x11 x12 x13 x14) (View.ld x6 r0_31)⟩,
    ⟨r0_30, k0_pay24 (k0_pay34 x0 x1 x2 x3 x4 x5 x6 x7 x8 x9 x10 x11 x12 x13 x14) (View.ld x6 r0_29)⟩,
    ⟨r0_28, k0_pay23 (k0_pay34 x0 x1 x2 x3 x4 x5 x6 x7 x8 x9 x10 x11 x12 x13 x14) (View.ld x6 r0_27)⟩,
    ⟨r0_26, k0_pay22 (k0_pay34 x0 x1 x2 x3 x4 x5 x6 x7 x8 x9 x10 x11 x12 x13 x14) (View.ld x6 r0_25)⟩,
    ⟨r0_24, k0_pay21 (k0_pay34 x0 x1 x2 x3 x4 x5 x6 x7 x8 x9 x10 x11 x12 x13 x14) (View.ld x6 r0_23)⟩,
    ⟨r0_22, k0_pay20 (k0_pay34 x0 x1 x2 x3 x4 x5 x6 x7 x8 x9 x10 x11 x12 x13 x14) (View.ld x6 r0_21)⟩,
    ⟨r0_20, k0_pay19 (k0_pay34 x0 x1 x2 x3 x4 x5 x6 x7 x8 x9 x10 x11 x12 x13 x14) (View.ld x6 r0_19) (constant S128x128 .f32 0x00000000#32)⟩,
    ⟨r0_18, k0_pay18 (k0_pay33 x0 x1 x2 x3 x4 x5 x6 x7 x8 x9 x10 x11 x12 x13 x14) (View.ld x9 r0_9) (View.ld x7 r0_10) (View.ld x6 r0_17)⟩,
    ⟨r0_16, k0_pay17 (k0_pay33 x0 x1 x2 x3 x4 x5 x6 x7 x8 x9 x10 x11 x12 x13 x14) (View.ld x9 r0_9) (View.ld x7 r0_10) (View.ld x6 r0_15)⟩,
    ⟨r0_14, k0_pay16 (k0_pay33 x0 x1 x2 x3 x4 x5 x6 x7 x8 x9 x10 x11 x12 x13 x14) (View.ld x9 r0_9) (View.ld x7 r0_10) (View.ld x6 r0_13)⟩,
    ⟨r0_12, k0_pay15 (k0_pay33 x0 x1 x2 x3 x4 x5 x6 x7 x8 x9 x10 x11 x12 x13 x14) (View.ld x9 r0_9) (View.ld x7 r0_10) (View.ld x6 r0_11)⟩]

/-- Its stores tile the buffer (checked by evaluation), so they cover it. -/
theorem cover0_19 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S128x2048.Idx) :
    ∃ pc ∈ ([⟨r0_42, p0⟩, ⟨r0_40, p1⟩, ⟨r0_38, p2⟩, ⟨r0_36, p3⟩, ⟨r0_34, p4⟩, ⟨r0_32, p5⟩, ⟨r0_30, p6⟩, ⟨r0_28, p7⟩, ⟨r0_26, p8⟩, ⟨r0_24, p9⟩, ⟨r0_22, p10⟩, ⟨r0_20, p11⟩, ⟨r0_18, p12⟩, ⟨r0_16, p13⟩, ⟨r0_14, p14⟩, ⟨r0_12, p15⟩] : List (View.Piece (Elt F) S128x2048 .f32)), y ∈ pc.1.set :=
  View.cover_of_tiled [⟨r0_42, p0⟩, ⟨r0_40, p1⟩, ⟨r0_38, p2⟩, ⟨r0_36, p3⟩, ⟨r0_34, p4⟩, ⟨r0_32, p5⟩, ⟨r0_30, p6⟩, ⟨r0_28, p7⟩, ⟨r0_26, p8⟩, ⟨r0_24, p9⟩, ⟨r0_22, p10⟩, ⟨r0_20, p11⟩, ⟨r0_18, p12⟩, ⟨r0_16, p13⟩, ⟨r0_14, p14⟩, ⟨r0_12, p15⟩] S128x128.size (by rfl) y

/-- Window 20's staging buffer after the body, from the input windows' blocks: its 1 store as pieces, LAST
    FIRST (Lib/Pipeline/FrameBody.lean `View.canon`; the payloads are the skeleton's and the values stated above). -/
def out0_20 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S1x128 .f32 :=
  View.canon [⟨r0_8, k0_pay31 (k0_pay34 x0 x1 x2 x3 x4 x5 x6 x7 x8 x9 x10 x11 x12 x13 x14)⟩]

/-- Its stores tile the buffer (checked by evaluation), so they cover it. -/
theorem cover0_20 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- Window 21's staging buffer after the body, from the input windows' blocks: its 1 store as pieces, LAST
    FIRST (Lib/Pipeline/FrameBody.lean `View.canon`; the payloads are the skeleton's and the values stated above). -/
def out0_21 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S1x128 .f32 :=
  View.canon [⟨r0_8, k0_pay1 (k0_pay33 x0 x1 x2 x3 x4 x5 x6 x7 x8 x9 x10 x11 x12 x13 x14) (k0_pay32 (k0_pay13 (View.ld x9 r0_9)) (View.ld x8 r0_10)) (View.ld x10 r0_8)⟩]

/-- Its stores tile the buffer (checked by evaluation), so they cover it. -/
theorem cover0_21 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- Window 22's staging buffer after the body, from the input windows' blocks: its 1 store as pieces, LAST
    FIRST (Lib/Pipeline/FrameBody.lean `View.canon`; the payloads are the skeleton's and the values stated above). -/
def out0_22 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S128x128 .f32 :=
  View.canon [⟨r0_6, k0_pay2 (k0_pay6 (View.ld x11 r0_0)) (View.ld x12 r0_6)⟩]

/-- Its stores tile the buffer (checked by evaluation), so they cover it. -/
theorem cover0_22 (p0 : Vec F S128x128 .f32) (y : S128x128.Idx) :
    ∃ pc ∈ ([⟨r0_6, p0⟩] : List (View.Piece (Elt F) S128x128 .f32)), y ∈ pc.1.set :=
  View.cover_of_tiled [⟨r0_6, p0⟩] S128x128.size (by rfl) y

/-- Window 23's staging buffer after the body, from the input windows' blocks: its 1 store as pieces, LAST
    FIRST (Lib/Pipeline/FrameBody.lean `View.canon`; the payloads are the skeleton's and the values stated above). -/
def out0_23 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S1x128 .f32 :=
  View.canon [⟨r0_8, k0_pay3 (View.ld x13 r0_8)⟩]

/-- Its stores tile the buffer (checked by evaluation), so they cover it. -/
theorem cover0_23 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-- Window 24's staging buffer after the body, from the input windows' blocks: its 1 store as pieces, LAST
    FIRST (Lib/Pipeline/FrameBody.lean `View.canon`; the payloads are the skeleton's and the values stated above). -/
def out0_24 (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) : Vec F S1x128 .f32 :=
  View.canon [⟨r0_8, k0_pay4 (View.ld x14 r0_8)⟩]

/-- Its stores tile the buffer (checked by evaluation), so they cover it. -/
theorem cover0_24 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1x640 .f32) (harg0 : arg0.IsWhole) (arg1 : Memref sig .tc .vmem S640x128 .f32) (harg1 : arg1.IsWhole) (arg2 : Memref sig .tc .vmem S64x640 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S128x512 .f32) (harg6 : arg6.IsWhole) (arg7 : Memref sig .tc .vmem S1x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S1x128 .f32) (harg10 : arg10.IsWhole) (arg11 : Memref sig .tc .vmem S1x2 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S128x640 .f32) (harg15 : arg15.IsWhole) (arg16 : Memref sig .tc .vmem S640x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x2048 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x128 .f32) (harg24 : arg24.IsWhole)
    (x0 : Vec F S1x640 .f32) (x1 : Vec F S640x128 .f32) (x2 : Vec F S64x640 .f32) (x3 : Vec F S1x64 .f32) (x4 : Vec F S64x128 .f32) (x5 : Vec F S1x64 .f32) (x6 : Vec F S128x512 .f32) (x7 : Vec F S1x32 .f32) (x8 : Vec F S1x32 .f32) (x9 : Vec F S128x32 .f32) (x10 : Vec F S1x128 .f32) (x11 : Vec F S1x2 .f32) (x12 : Vec F S128x128 .f32) (x13 : Vec F S1x128 .f32) (x14 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (out0_15 x0 x1 x2 x3 x4 x5 x6 x7 x8 x9 x10 x11 x12 x13 x14) ∗ owns (c : Thread nD τ) arg16 fullShare (out0_16 x0 x1 x2 x3 x4 x5 x6 x7 x8 x9 x10 x11 x12 x13 x14) ∗ owns (c : Thread nD τ) arg17 fullShare (out0_17 x0 x1 x2 x3 x4 x5 x6 x7 x8 x9 x10 x11 x12 x13 x14) ∗ owns (c : Thread nD τ) arg18 fullShare (out0_18 x0 x1 x2 x3 x4 x5 x6 x7 x8 x9 x10 x11 x12 x13 x14) ∗ owns (c : Thread nD τ) arg19 fullShare (out0_19 x0 x1 x2 x3 x4 x5 x6 x7 x8 x9 x10 x11 x12 x13 x14) ∗ owns (c : Thread nD τ) arg20 fullShare (out0_20 x0 x1 x2 x3 x4 x5 x6 x7 x8 x9 x10 x11 x12 x13 x14) ∗ owns (c : Thread nD τ) arg21 fullShare (out0_21 x0 x1 x2 x3 x4 x5 x6 x7 x8 x9 x10 x11 x12 x13 x14) ∗ owns (c : Thread nD τ) arg22 fullShare (out0_22 x0 x1 x2 x3 x4 x5 x6 x7 x8 x9 x10 x11 x12 x13 x14) ∗ owns (c : Thread nD τ) arg23 fullShare (out0_23 x0 x1 x2 x3 x4 x5 x6 x7 x8 x9 x10 x11 x12 x13 x14) ∗ owns (c : Thread nD τ) arg24 fullShare (out0_24 x0 x1 x2 x3 x4 x5 x6 x7 x8 x9 x10 x11 x12 x13 x14)) -∗ K ⟨⟩))
      ⊢ wp frame (wpE (defs₀ (F := F)) Variants.none c none) E (cc0__prep_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__prep_kernel_eq_skeleton]; unfold cc0__prep_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨23, _⟩ => out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 25, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_23 (c : Dev nD) (t : Fin cfg0.N) : (dat0 V c).after 23 t = out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 2000000 in -- 25 windows
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.KernelIdeal.Fuse.lean ====
/- The frame of `KernelIdeal`, in four modules (Prep, Fuse, Conv: one call each; Run: the whole launch). It is the text of the
   program's generated frame module, divided by call; the obligation `body_obligation0` of the first call, of 25 windows, is given
   a larger step limit. This module: the fusing call. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle (`View.cover_of_tiled`) is checked coordinate by coordinate, so long axes need a deep recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__fuse_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x128x64x128 := Rect.unit (s := S1x128x64x128) ![0, 0, 0, 0] S1x128x64x128.size inb_S1x128x64x128_S1x128x64x128_0_0_0_0
abbrev r1_1 : Rect S128x640 := Rect.unit (s := S128x640) ![0, 0] S128x640.size inb_S128x640_S128x640_0_0
abbrev r1_2 : Rect S640x128 := Rect.unit (s := S640x128) ![0, 0] S640x128.size inb_S640x128_S640x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S2048x128 := Rect.unit (s := S2048x128) ![0, 0] S2048x128.size inb_S2048x128_S2048x128_0_0
abbrev r1_6 : Rect S128x512 := Rect.unit (s := S128x512) ![0, 0] S128x512.size inb_S128x512_S128x512_0_0
abbrev r1_7 : Rect S512x16 := Rect.unit (s := S512x16) ![0, 0] S512x16.size inb_S512x16_S512x16_0_0
abbrev r1_8 : Rect S128x2048 := Rect.unit (s := S128x2048) ![0, 0] S128x2048.size inb_S128x2048_S128x2048_0_0
abbrev r1_9 : Rect S1x64x128x128 := Rect.unit (s := S1x64x128x128) ![0, 0, 0, 0] S1x64x128x128.size inb_S1x64x128x128_S1x64x128x128_0_0_0_0

/-! ## What the body leaves in each output window's buffer -/

/-! ### Values of the body that the stores' payloads, spelt out, would write more than once

    Each is a vector the body binds (often a part call's result), stated over the input windows' blocks and
    numbered on from the skeleton's payload functions (`k1_pay8` …, after `k1_pay7`), so that
    `out1_W` and the values after it name it instead of spelling it out (`unfold_out out1_W` opens a canon
    with them, `unfold_payloads` opens them with the payloads); the comment after each is the printed function's
    name for the value (a count appended where that name is bound again). -/

def k1_pay8 (x0 : Vec F S1x128x64x128 .f32) (x1 : Vec F S1x128x64x128 .f32) (x2 : Vec F S128x640 .f32) (x3 : Vec F S1x640 .f32) (x4 : Vec F S640x128 .f32) (x5 : Vec F S128x128 .f32) (x6 : Vec F S1x128 .f32) (x7 : Vec F S2048x128 .f32) (x8 : Vec F S1x128 .f32) (x9 : Vec F S1x128 .f32) (x10 : Vec F S1x128 .f32) (x11 : Vec F S128x512 .f32) (x12 : Vec F S512x16 .f32) (x13 : Vec F S128x2048 .f32) (x14 : Vec F S1x128 .f32) (x15 : Vec F S1x128 .f32) (x16 : Vec F S128x128 .f32) : FVec F S512x128 .f32 :=
  k1_pay2 (View.ld x0 r1_0) (View.ld x2 r1_1) (View.ld x4 r1_2) (View.ld x5 r1_3) (View.ld x6 r1_4) (View.ld x7 r1_5) -- `v33`
def k1_pay9 (x0 : Vec F S1x128x64x128 .f32) (x1 : Vec F S1x128x64x128 .f32) (x2 : Vec F S128x640 .f32) (x3 : Vec F S1x640 .f32) (x4 : Vec F S640x128 .f32) (x5 : Vec F S128x128 .f32) (x6 : Vec F S1x128 .f32) (x7 : Vec F S2048x128 .f32) (x8 : Vec F S1x128 .f32) (x9 : Vec F S1x128 .f32) (x10 : Vec F S1x128 .f32) (x11 : Vec F S128x512 .f32) (x12 : Vec F S512x16 .f32) (x13 : Vec F S128x2048 .f32) (x14 : Vec F S1x128 .f32) (x15 : Vec F S1x128 .f32) (x16 : Vec F S128x128 .f32) : FVec F S1x128 .f32 :=
  k1_pay3 (View.ld x8 r1_4) -- `v35`

/-- Window 17's staging buffer after the body, from the input windows' blocks: its 1 store as pieces, LAST
    FIRST (Lib/Pipeline/FrameBody.lean `View.canon`; the payloads are the skeleton's and the values stated above). -/
def out1_17 (x0 : Vec F S1x128x64x128 .f32) (x1 : Vec F S1x128x64x128 .f32) (x2 : Vec F S128x640 .f32) (x3 : Vec F S1x640 .f32) (x4 : Vec F S640x128 .f32) (x5 : Vec F S128x128 .f32) (x6 : Vec F S1x128 .f32) (x7 : Vec F S2048x128 .f32) (x8 : Vec F S1x128 .f32) (x9 : Vec F S1x128 .f32) (x10 : Vec F S1x128 .f32) (x11 : Vec F S128x512 .f32) (x12 : Vec F S512x16 .f32) (x13 : Vec F S128x2048 .f32) (x14 : Vec F S1x128 .f32) (x15 : Vec F S1x128 .f32) (x16 : Vec F S128x128 .f32) : Vec F S1x64x128x128 .bf16 :=
  View.canon [⟨r1_9, k1_pay1 (k1_pay4 (k1_pay8 x0 x1 x2 x3 x4 x5 x6 x7 x8 x9 x10 x11 x12 x13 x14 x15 x16) (k1_pay9 x0 x1 x2 x3 x4 x5 x6 x7 x8 x9 x10 x11 x12 x13 x14 x15 x16) (View.ld x9 r1_4) (View.ld x10 r1_4)) (k1_pay6 (k1_pay8 x0 x1 x2 x3 x4 x5 x6 x7 x8 x9 x10 x11 x12 x13 x14 x15 x16) (k1_pay9 x0 x1 x2 x3 x4 x5 x6 x7 x8 x9 x10 x11 x12 x13 x14 x15 x16) (View.ld x9 r1_4) (View.ld x10 r1_4) (View.ld x11 r1_6) (View.ld x12 r1_7)) (k1_pay7 (k1_pay8 x0 x1 x2 x3 x4 x5 x6 x7 x8 x9 x10 x11 x12 x13 x14 x15 x16) (k1_pay9 x0 x1 x2 x3 x4 x5 x6 x7 x8 x9 x10 x11 x12 x13 x14 x15 x16) (View.ld x9 r1_4) (View.ld x10 r1_4) (View.ld x11 r1_6) (View.ld x12 r1_7) (View.ld x12 r1_7)) (Scalar.ofBits .f32 0x3727C5AC#32) (View.ld x13 r1_8) (View.ld x14 r1_4) (View.ld x15 r1_4) (View.ld x1 r1_0) (View.ld x16 r1_3)⟩]

/-- Its stores tile the buffer (checked by evaluation), so they cover it. -/
theorem cover1_17 (p0 : Vec F S1x64x128x128 .bf16) (y : S1x64x128x128.Idx) :
    ∃ pc ∈ ([⟨r1_9, p0⟩] : List (View.Piece (Elt F) S1x64x128x128 .bf16)), y ∈ pc.1.set :=
  View.cover_of_tiled [⟨r1_9, p0⟩] S1x64x128x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x128x64x128 .f32) (harg2 : arg2.IsWhole) (arg3 : Memref sig .tc .vmem S1x128x64x128 .f32) (harg3 : arg3.IsWhole) (arg4 : Memref sig .tc .vmem S128x640 .f32) (harg4 : arg4.IsWhole) (arg5 : Memref sig .tc .vmem S1x640 .f32) (harg5 : arg5.IsWhole) (arg6 : Memref sig .tc .vmem S640x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x512 .f32) (harg13 : arg13.IsWhole) (arg14 : Memref sig .tc .vmem S512x16 .f32) (harg14 : arg14.IsWhole) (arg15 : Memref sig .tc .vmem S128x2048 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x64x128x128 .bf16) (harg19 : arg19.IsWhole)
    (x0 : Vec F S1x128x64x128 .f32) (x1 : Vec F S1x128x64x128 .f32) (x2 : Vec F S128x640 .f32) (x3 : Vec F S1x640 .f32) (x4 : Vec F S640x128 .f32) (x5 : Vec F S128x128 .f32) (x6 : Vec F S1x128 .f32) (x7 : Vec F S2048x128 .f32) (x8 : Vec F S1x128 .f32) (x9 : Vec F S1x128 .f32) (x10 : Vec F S1x128 .f32) (x11 : Vec F S128x512 .f32) (x12 : Vec F S512x16 .f32) (x13 : Vec F S128x2048 .f32) (x14 : Vec F S1x128 .f32) (x15 : Vec F S1x128 .f32) (x16 : Vec F S128x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out1_17 x0 x1 x2 x3 x4 x5 x6 x7 x8 x9 x10 x11 x12 x13 x14 x15 x16)) -∗ K ⟨⟩))
      ⊢ wp frame (wpE (defs₀ (F := F)) Variants.none c none) E (cc1__fuse_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__fuse_kernel_eq_skeleton]; unfold cc1__fuse_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  refine (View.read_writes_eq_canon _ _ _ (cover1_17 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 18, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ (grid1.coords t) _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.KernelIdeal.Conv.lean ====
/- The frame of `KernelIdeal`, in four modules (Prep, Fuse, Conv: one call each; Run: the whole launch). It is the text of the
   program's generated frame module, divided by call; the obligation `body_obligation0` of the first call, of 25 windows, is given
   a larger step limit. This module: the convolution call. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle (`View.cover_of_tiled`) is checked coordinate by coordinate, so long axes need a deep recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__conv_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x64x128x128 := Rect.unit (s := S1x64x128x128) ![0, 63, 0, 0] S1x1x128x128.size inb_S1x64x128x128_S1x1x128x128_0_63_0_0
abbrev r2_1 : Rect S1x64x128x128 := Rect.unit (s := S1x64x128x128) ![0, 0, 0, 0] S1x1x128x128.size inb_S1x64x128x128_S1x1x128x128_0_0_0_0
abbrev r2_2 : Rect S1x64x128x128 := Rect.unit (s := S1x64x128x128) ![0, 0, 0, 0] S1x64x128x128.size inb_S1x64x128x128_S1x64x128x128_0_0_0_0
abbrev r2_3 : Rect S3x3x128x128 := Rect.unit (s := S3x3x128x128) ![0, 0, 0, 0] S1x1x128x128.size inb_S3x3x128x128_S1x1x128x128_0_0_0_0
abbrev r2_4 : Rect S3x3x128x128 := Rect.unit (s := S3x3x128x128) ![0, 1, 0, 0] S1x1x128x128.size inb_S3x3x128x128_S1x1x128x128_0_1_0_0
abbrev r2_5 : Rect S3x3x128x128 := Rect.unit (s := S3x3x128x128) ![0, 2, 0, 0] S1x1x128x128.size inb_S3x3x128x128_S1x1x128x128_0_2_0_0
abbrev r2_6 : Rect S3x3x128x128 := Rect.unit (s := S3x3x128x128) ![1, 0, 0, 0] S1x1x128x128.size inb_S3x3x128x128_S1x1x128x128_1_0_0_0
abbrev r2_7 : Rect S3x3x128x128 := Rect.unit (s := S3x3x128x128) ![1, 1, 0, 0] S1x1x128x128.size inb_S3x3x128x128_S1x1x128x128_1_1_0_0
abbrev r2_8 : Rect S3x3x128x128 := Rect.unit (s := S3x3x128x128) ![1, 2, 0, 0] S1x1x128x128.size inb_S3x3x128x128_S1x1x128x128_1_2_0_0
abbrev r2_9 : Rect S3x3x128x128 := Rect.unit (s := S3x3x128x128) ![2, 0, 0, 0] S1x1x128x128.size inb_S3x3x128x128_S1x1x128x128_2_0_0_0
abbrev r2_10 : Rect S3x3x128x128 := Rect.unit (s := S3x3x128x128) ![2, 1, 0, 0] S1x1x128x128.size inb_S3x3x128x128_S1x1x128x128_2_1_0_0
abbrev r2_11 : Rect S3x3x128x128 := Rect.unit (s := S3x3x128x128) ![2, 2, 0, 0] S1x1x128x128.size inb_S3x3x128x128_S1x1x128x128_2_2_0_0
abbrev r2_12 : Rect S1x128 := Rect.unit (s := S1x128) ![0, 0] S1x128.size inb_S1x128_S1x128_0_0
abbrev r2_13 : Rect S1x128x64x128 := Rect.unit (s := S1x128x64x128) ![0, 0, 0, 0] S1x128x64x128.size inb_S1x128x64x128_S1x128x64x128_0_0_0_0

/-! ## What the body leaves in each output window's buffer -/

/-! ### Values of the body that the stores' payloads, spelt out, would write more than once

    Each is a vector the body binds (often a part call's result), stated over the input windows' blocks and
    numbered on from the skeleton's payload functions (`k2_pay11` …, after `k2_pay10`), so that
    `out2_W` and the values after it name it instead of spelling it out (`unfold_out out2_W` opens a canon
    with them, `unfold_payloads` opens them with the payloads); the comment after each is the printed function's
    name for the value (a count appended where that name is bound again). -/

def k2_pay11 (i : grid2.Coords) (x0 : Vec F S1x64x128x128 .bf16) (x1 : Vec F S1x64x128x128 .bf16) (x2 : Vec F S1x64x128x128 .bf16) (x3 : Vec F S3x3x128x128 .f32) (x4 : Vec F S1x128 .f32) (x5 : Vec F S1x128 .f32) : FVec F S8448x128 .f32 :=
  k2_pay4 i (View.ld x0 r2_0) (View.ld x2 r2_1) (View.ld x1 r2_2) -- `v25`
def k2_pay12 (i : grid2.Coords) (x0 : Vec F S1x64x128x128 .bf16) (x1 : Vec F S1x64x128x128 .bf16) (x2 : Vec F S1x64x128x128 .bf16) (x3 : Vec F S3x3x128x128 .f32) (x4 : Vec F S1x128 .f32) (x5 : Vec F S1x128 .f32) : FVec F S8448x128 .f32 :=
  k2_pay5 i (View.ld x0 r2_0) (View.ld x2 r2_1) (View.ld x1 r2_2) -- `v26`
def k2_pay13 (i : grid2.Coords) (x0 : Vec F S1x64x128x128 .bf16) (x1 : Vec F S1x64x128x128 .bf16) (x2 : Vec F S1x64x128x128 .bf16) (x3 : Vec F S3x3x128x128 .f32) (x4 : Vec F S1x128 .f32) (x5 : Vec F S1x128 .f32) : FVec F S8448x128 .f32 :=
  k2_pay6 i (View.ld x0 r2_0) (View.ld x2 r2_1) (View.ld x1 r2_2) -- `v27`

/-- Window 6's staging buffer after the body, from the input windows' blocks: its 1 store as pieces, LAST
    FIRST (Lib/Pipeline/FrameBody.lean `View.canon`; the payloads are the skeleton's and the values stated above). -/
def out2_6 (i : grid2.Coords) (x0 : Vec F S1x64x128x128 .bf16) (x1 : Vec F S1x64x128x128 .bf16) (x2 : Vec F S1x64x128x128 .bf16) (x3 : Vec F S3x3x128x128 .f32) (x4 : Vec F S1x128 .f32) (x5 : Vec F S1x128 .f32) : Vec F S1x128x64x128 .f32 :=
  View.canon [⟨r2_13, k2_pay1 (k2_pay12 i x0 x1 x2 x3 x4 x5) (k2_pay13 i x0 x1 x2 x3 x4 x5) (k2_pay8 (k2_pay12 i x0 x1 x2 x3 x4 x5) (k2_pay13 i x0 x1 x2 x3 x4 x5) (k2_pay7 i (View.ld x0 r2_0) (View.ld x2 r2_1) (View.ld x1 r2_2) (View.ld x3 r2_3)) (View.ld x3 r2_4) (View.ld x3 r2_5)) (k2_pay9 (k2_pay11 i x0 x1 x2 x3 x4 x5) (k2_pay12 i x0 x1 x2 x3 x4 x5) (k2_pay13 i x0 x1 x2 x3 x4 x5) (View.ld x3 r2_6) (View.ld x3 r2_7) (View.ld x3 r2_8)) (k2_pay10 (k2_pay11 i x0 x1 x2 x3 x4 x5) (View.ld x3 r2_9)) (View.ld x3 r2_10) (View.ld x3 r2_11) (View.ld x4 r2_12) (View.ld x5 r2_12)⟩]

/-- Its stores tile the buffer (checked by evaluation), so they cover it. -/
theorem cover2_6 (p0 : Vec F S1x128x64x128 .f32) (y : S1x128x64x128.Idx) :
    ∃ pc ∈ ([⟨r2_13, p0⟩] : List (View.Piece (Elt F) S1x128x64x128 .f32)), y ∈ pc.1.set :=
  View.cover_of_tiled [⟨r2_13, p0⟩] S1x128x64x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1x64x128x128 .bf16) (harg2 : arg2.IsWhole) (arg3 : Memref sig .tc .vmem S1x64x128x128 .bf16) (harg3 : arg3.IsWhole) (arg4 : Memref sig .tc .vmem S1x64x128x128 .bf16) (harg4 : arg4.IsWhole) (arg5 : Memref sig .tc .vmem S3x3x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128x64x128 .f32) (harg8 : arg8.IsWhole)
    (x0 : Vec F S1x64x128x128 .bf16) (x1 : Vec F S1x64x128x128 .bf16) (x2 : Vec F S1x64x128x128 .bf16) (x3 : Vec F S3x3x128x128 .f32) (x4 : Vec F S1x128 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 i x0 x1 x2 x3 x4 x5)) -∗ K ⟨⟩))
      ⊢ wp frame (wpE (defs₀ (F := F)) Variants.none c none) E (cc2__conv_kernel i arg2 harg2 arg3 harg3 arg4 harg4 arg5 harg5 arg6 harg6 arg7 harg7 arg8 harg8) K := by
  simp only [cc2__conv_kernel_eq_skeleton]; unfold cc2__conv_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_6 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    each input's share of its array
    (`Pipeline.shareOf`: the full share of an array several windows stage, dealt among them). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t)
  Φ _ := Pipeline.ΦA spec2 c
  q w := Pipeline.shareOf spec2 w
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (grid2.coords t) (iblk2 V c 0 t) (iblk2 V c 1 t) (iblk2 V c 2 t) (iblk2 V c 3 t) (iblk2 V c 4 t) (iblk2 V c 5 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.KernelIdeal.Run.lean ====
/- The frame of `KernelIdeal`, in four modules (Prep, Fuse, Conv: one call each; Run: the whole launch). It is the text of the
   program's generated frame module, divided by call; the obligation `body_obligation0` of the first call, of 25 windows, is given
   a larger step limit. This module: the launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Frame.KernelIdeal.Prep
public import proofs.«01_k».proof.Proof.Frame.KernelIdeal.Fuse
public import proofs.«01_k».proof.Proof.Frame.KernelIdeal.Conv

@[expose] public section

-- membership in a rectangle (`View.cover_of_tiled`) is checked coordinate by coordinate, so long axes need a deep recursion
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v10, main_v11, main_v12, main_v13, main_c, main_v14, main_v15, main_v16, main_v17, main_v18, main_v19, main_cst, main_v20, main_v21, main_v22, main_v23, main_v24, main_v25, main_v26]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact (dat2 (V4 m ρ) c).withArrays_arrAt launch₀2.sharedIn _ (A_eq2 (V4 m ρ) c) w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays_shared`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)
theorem W5_main_arg20 (c : Dev nD) : W5 m ρ c (Proc.devRef .tc main_arg20) = m ((c : Thread nD τ).loc main_arg20) :=
  W5_args m ρ c main_arg20 (by decide)
theorem W5_main_arg21 (c : Dev nD) : W5 m ρ c (Proc.devRef .tc main_arg21) = m ((c : Thread nD τ).loc main_arg21) :=
  W5_args m ρ c main_arg21 (by decide)
theorem W5_main_arg22 (c : Dev nD) : W5 m ρ c (Proc.devRef .tc main_arg22) = m ((c : Thread nD τ).loc main_arg22) :=
  W5_args m ρ c main_arg22 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the launch reads at the end). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    class invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, every buffer the program may read at its end: from any memory with zero counters every weakly fair
    execution terminates, nothing faulting, with each buffer of each core at its contents after the last segment (`W5`)
    and every semaphore counter at zero. The frame and the value both read it. -/
theorem run_boundary : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The result array ends at its contents after the last segment, the argument arrays as launched. -/
theorem run_value : θ_run defs (onTc (τ := τ) (main (F := F))) ⟨m, fun _ => 0, ρ⟩ (fun r => ∀ c : Dev nD,
      r.2.mem ((c.tc : Thread nD τ).loc main_v28) = W5 m ρ c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun s h c =>
      ⟨h.1 c _ (mem_uc main_v28 (by decide)), (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c),
       (h.1 c _ (mem_uc main_arg11 (by decide))).trans (W5_main_arg11 m ρ c),
       (h.1 c _ (mem_uc main_arg12 (by decide))).trans (W5_main_arg12 m ρ c),
       (h.1 c _ (mem_uc main_arg13 (by decide))).trans (W5_main_arg13 m ρ c),
       (h.1 c _ (mem_uc main_arg14 (by decide))).trans (W5_main_arg14 m ρ c),
       (h.1 c _ (mem_uc main_arg15 (by decide))).trans (W5_main_arg15 m ρ c),
       (h.1 c _ (mem_uc main_arg16 (by decide))).trans (W5_main_arg16 m ρ c),
       (h.1 c _ (mem_uc main_arg17 (by decide))).trans (W5_main_arg17 m ρ c),
       (h.1 c _ (mem_uc main_arg18 (by decide))).trans (W5_main_arg18 m ρ c),
       (h.1 c _ (mem_uc main_arg19 (by decide))).trans (W5_main_arg19 m ρ c),
       (h.1 c _ (mem_uc main_arg20 (by decide))).trans (W5_main_arg20 m ρ c),
       (h.1 c _ (mem_uc main_arg21 (by decide))).trans (W5_main_arg21 m ρ c),
       (h.1 c _ (mem_uc main_arg22 (by decide))).trans (W5_main_arg22 m ρ c)⟩) (run_boundary m ρ)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun s h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c),
       (h.1 c _ (mem_uc main_arg11 (by decide))).trans (W5_main_arg11 m ρ c),
       (h.1 c _ (mem_uc main_arg12 (by decide))).trans (W5_main_arg12 m ρ c),
       (h.1 c _ (mem_uc main_arg13 (by decide))).trans (W5_main_arg13 m ρ c),
       (h.1 c _ (mem_uc main_arg14 (by decide))).trans (W5_main_arg14 m ρ c),
       (h.1 c _ (mem_uc main_arg15 (by decide))).trans (W5_main_arg15 m ρ c),
       (h.1 c _ (mem_uc main_arg16 (by decide))).trans (W5_main_arg16 m ρ c),
       (h.1 c _ (mem_uc main_arg17 (by decide))).trans (W5_main_arg17 m ρ c),
       (h.1 c _ (mem_uc main_arg18 (by decide))).trans (W5_main_arg18 m ρ c),
       (h.1 c _ (mem_uc main_arg19 (by decide))).trans (W5_main_arg19 m ρ c),
       (h.1 c _ (mem_uc main_arg20 (by decide))).trans (W5_main_arg20 m ρ c),
       (h.1 c _ (mem_uc main_arg21 (by decide))).trans (W5_main_arg21 m ρ c),
       (h.1 c _ (mem_uc main_arg22 (by decide))).trans (W5_main_arg22 m ρ c)⟩), h.2⟩) (run_boundary m ρ)

end Cert.KernelIdeal.Gen

end
-- ==== Proof.Value.ConvBlock.lean ====
/- What the convolution call's body writes, element by element: `out2_6` at an index, from the input windows' blocks. -/
module

public import proofs.«01_k».proof.Proof.Frame.KernelIdeal.Conv
public import Idealize.ShloMosaic.Lib.Pointwise
public import Idealize.ShloMosaic.Lib.Pipeline.Value

@[expose] public section

noncomputable section

namespace Cert.Value.Conv

open Idealize.ShloMosaic Cert.KernelIdeal Cert.KernelIdeal.Gen

/-- The row chunk with its two halo rows: rows `0` and `65` come from the neighbouring chunks, each multiplied by the
    0-or-1 flag that says whether there is such a neighbour. -/
def row (i : grid2.Coords) (x0 x1 x2 : Vec Ideal S1x64x128x128 .bf16) (r : Fin 66) (w c : Fin 128) : EReal :=
  if r.val < 1 then
    x0 (ix4 0 63 w c) * ((Scalar.extui (Scalar.cmpi CmpIPredicate.sgt (BitVec.ofNat 32 (i 1).val) 0#32) : BitVec 32).toInt : ℝ)
  else if hr : r.val - 1 < 64 then x1 (ix4 0 ⟨r.val - 1, hr⟩ w c)
  else x2 (ix4 0 0 w c) * ((Scalar.extui (Scalar.cmpi CmpIPredicate.slt (BitVec.ofNat 32 (i 1).val) 1#32) : BitVec 32).toInt : ℝ)

/-- The same, zero-padded by one column on each side. -/
def ext (i : grid2.Coords) (x0 x1 x2 : Vec Ideal S1x64x128x128 .bf16) (r : Fin 66) (w : Fin 130) (c : Fin 128) : EReal :=
  if h : 1 ≤ w.val ∧ w.val ≤ 128 then row i x0 x1 x2 r ⟨w.val - 1, by omega⟩ c else 0

variable (i : grid2.Coords) (x0 x1 x2 : Vec Ideal S1x64x128x128 .bf16) (x3 : Vec Ideal S3x3x128x128 .f32) (x4 x5 : Vec Ideal S1x128 .f32)

/-- The chunk the body assembles. -/
theorem row_apply (r : Fin 66) (w c : Fin 128) :
    k2_pay2 (F := Ideal) i (View.ld x0 r2_0) (View.ld x2 r2_1) (View.ld x1 r2_2) (ix3 r w c) = row i x0 x1 x2 r w c := by
  pointwise [k2_pay2, r2_0, r2_1, r2_2]
  rfl

/-- The chunk shifted one column to the right, at row `r` and column `w`. -/
theorem left_apply (r : Fin 66) (w c : Fin 128) (h : r.val * 128 + w.val < 8448) :
    k2_pay11 (F := Ideal) i x0 x1 x2 x3 x4 x5 (ix2 ⟨r.val * 128 + w.val, h⟩ c) = ext i x0 x1 x2 r ⟨w.val, by omega⟩ c := by
  pointwise [k2_pay11, k2_pay4, k2_pay3]
  unfold ext
  by_cases h0 : w.val < 1
  · rw [dif_pos h0, dif_neg (by simp only [not_and]; omega)]
  · rw [dif_neg h0, dif_pos ⟨by simp only []; omega, by simp only []; omega⟩, row_apply]

/-- The chunk as it is. -/
theorem centre_apply (r : Fin 66) (w c : Fin 128) (h : r.val * 128 + w.val < 8448) :
    k2_pay12 (F := Ideal) i x0 x1 x2 x3 x4 x5 (ix2 ⟨r.val * 128 + w.val, h⟩ c) = ext i x0 x1 x2 r ⟨w.val + 1, by omega⟩ c := by
  pointwise [k2_pay12, k2_pay5, k2_pay3]
  unfold ext
  rw [dif_pos ⟨by simp only []; omega, by simp only []; omega⟩, row_apply]
  rfl

/-- The chunk shifted one column to the left. -/
theorem right_apply (r : Fin 66) (w c : Fin 128) (h : r.val * 128 + w.val < 8448) :
    k2_pay13 (F := Ideal) i x0 x1 x2 x3 x4 x5 (ix2 ⟨r.val * 128 + w.val, h⟩ c) = ext i x0 x1 x2 r ⟨w.val + 2, by omega⟩ c := by
  pointwise [k2_pay13, k2_pay6, k2_pay3]
  unfold ext
  by_cases h0 : w.val < 127
  · rw [dif_pos h0, dif_pos ⟨by simp only []; omega, by simp only []; omega⟩, row_apply]
    congr 1
    exact Fin.ext (by simp only []; omega)
  · rw [dif_neg h0, dif_neg (by simp only [not_and]; omega)]

/-- One tap of the convolution: row offset `di`, column offset `dj`, summed over the channels. -/
def tap (e : Fin 66 → Fin 130 → Fin 128 → EReal) (k : Vec Ideal S3x3x128x128 .f32) (o : Fin 128) (r : Fin 64) (w : Fin 128) (di dj : Fin 3) : EReal :=
  ∑ c : Fin 128, e ⟨di.val + r.val, by omega⟩ ⟨w.val + dj.val, by omega⟩ c * k (ix4 di dj c o)

/-- What the convolution's body leaves in its output block: the nine taps, scaled, shifted and clipped. -/
theorem out_apply (o : Fin 128) (r : Fin 64) (w : Fin 128) :
    out2_6 (F := Ideal) i x0 x1 x2 x3 x4 x5 (ix4 0 o r w)
      = min (Ideal.ofBits FTy.f32 1086324736#32) (max 0
          ((∑ di, ∑ dj, tap (ext i x0 x1 x2) x3 o r w di dj) * x4 (ix2 0 o) + x5 (ix2 0 o))) := by
  unfold out2_6
  rw [View.canon_unit_zero (by funext a; fin_cases a <;> rfl)]
  pointwise [k2_pay1, k2_pay7, k2_pay8, k2_pay9, k2_pay10, r2_3, r2_4, r2_5, r2_6, r2_7, r2_8, r2_9, r2_10, r2_11, r2_12]
  have l : ∀ (r : Fin 66) (w c : Fin 128) (h : r.val * 128 + w.val < 8448),
      k2_pay4 (F := Ideal) i (View.ld x0 r2_0) (View.ld x2 r2_1) (View.ld x1 r2_2) (ix2 ⟨r.val * 128 + w.val, h⟩ c)
        = ext i x0 x1 x2 r ⟨w.val, by omega⟩ c := left_apply i x0 x1 x2 x3 x4 x5
  simp only [left_apply i x0 x1 x2 x3 x4 x5 ⟨1 + r.val, by omega⟩ w, left_apply i x0 x1 x2 x3 x4 x5 ⟨2 + r.val, by omega⟩ w,
    centre_apply i x0 x1 x2 x3 x4 x5 ⟨r.val, by omega⟩ w, centre_apply i x0 x1 x2 x3 x4 x5 ⟨1 + r.val, by omega⟩ w,
    centre_apply i x0 x1 x2 x3 x4 x5 ⟨2 + r.val, by omega⟩ w,
    right_apply i x0 x1 x2 x3 x4 x5 ⟨r.val, by omega⟩ w, right_apply i x0 x1 x2 x3 x4 x5 ⟨1 + r.val, by omega⟩ w,
    right_apply i x0 x1 x2 x3 x4 x5 ⟨2 + r.val, by omega⟩ w, l ⟨r.val, by omega⟩ w, Fin.sum_univ_three, tap,
    Fin.val_zero, Fin.val_one, Fin.val_two, Nat.add_zero, Nat.zero_add]

end Cert.Value.Conv
end
-- ==== Proof.Value.Spec.lean ====
/- The functions both programs compute, over plain indices: one pixel's column of channels normalised and sent through
   the memory-and-bypass front, a patch of such columns embedded and layer-normalised, and the two programs' ways of
   writing each. -/
module

public import Idealize.ShloMosaic.Lib.Pointwise

@[expose] public section

noncomputable section

namespace Cert.Value

open Idealize.ShloMosaic

/-- The floor under a column's length, as the programs write it. -/
def eps12 : EReal := Ideal.ofBits .f32 730643660#32
/-- The constant added to a variance, as the programs write it. -/
def eps5 : EReal := Ideal.ofBits .f32 925353388#32
/-- The number of channels, as the programs write it. -/
def c128 : EReal := Ideal.ofBits .f32 1124073472#32

/-- The sum of the products of two families. -/
def dot {n : ℕ} (f g : Fin n → EReal) : EReal := ∑ k, f k * g k

/-- A column of channels over its length (no shorter than the floor). -/
def unit (X : Fin 128 → EReal) (c : Fin 128) : EReal :=
  Ideal.div (X c) (max (Ideal.sqrt (∑ k, X k * X k)) eps12)

/-- The front as the kernel writes it: one product with the gates, one with the column, a bias. -/
def frontK (wm : Fin 128 → Fin 640 → EReal) (wt : Fin 640 → Fin 128 → EReal) (wb : Fin 128 → Fin 128 → EReal)
    (bs : Fin 128 → EReal) (X : Fin 128 → EReal) (o : Fin 128) : EReal :=
  ∑ j, Ideal.logistic (∑ c, unit X c * wm c j) * wt j o + ∑ c, unit X c * wb c o + bs o

/-- A 4 by 4 patch of columns embedded, the patch laid out as one row of 2048. -/
def embedK (S : Fin 4 → Fin 4 → Fin 128 → EReal) (we : Fin 2048 → Fin 128 → EReal) (o : Fin 128) : EReal :=
  ∑ t : Fin 2048, S ⟨t.val / 512, by omega⟩ ⟨t.val / 128 % 4, by omega⟩ ⟨t.val % 128, by omega⟩ * we t o

/-- A layer normalisation over the channels, as the kernel writes it. -/
def normK (h g b : Fin 128 → EReal) (o : Fin 128) : EReal :=
  (h o - Ideal.div (∑ x, h x) c128)
    * Ideal.rsqrt (Ideal.div (∑ x, (h x - Ideal.div (∑ x, h x) c128) * (h x - Ideal.div (∑ x, h x) c128)) c128 + eps5)
    * g o + b o

/-- The kernel's fused expansion, last normalisation and up-projection at one position `q` of a patch and one output
    channel: the mean and the mean square come from two products with the averaging matrix `sm`. -/
def upK (f : Fin 128 → EReal) (we : Fin 128 → Fin 512 → EReal) (sm : Fin 512 → Fin 16 → EReal)
    (ga kv co : EReal) (q : Fin 16) : EReal :=
  (ga - (∑ x, (∑ k, f k * we k x) * sm x q) * kv)
    * Ideal.rsqrt (∑ x, ((∑ k, f k * we k x) * (∑ k, f k * we k x)) * sm x q
        - (∑ x, (∑ k, f k * we k x) * sm x q) * (∑ x, (∑ k, f k * we k x) * sm x q) + eps5)
    + co

/-- An image zero-padded by one pixel on every side. -/
def xpad (X : Fin 4 → Fin 128 → Fin 128 → Fin 128 → EReal) (b : Fin 4) (r w : ℕ) (k : Fin 128) : EReal :=
  if h : (1 ≤ r ∧ r ≤ 128) ∧ (1 ≤ w ∧ w ≤ 128) then X b ⟨r - 1, by omega⟩ ⟨w - 1, by omega⟩ k else 0

/-- The 3 by 3 convolution of the zero-padded image, as nine sums over the channels. -/
def conv (X : Fin 4 → Fin 128 → Fin 128 → Fin 128 → EReal) (K : Fin 3 → Fin 3 → Fin 128 → Fin 128 → EReal)
    (b : Fin 4) (o y x : Fin 128) : EReal :=
  ∑ di : Fin 3, ∑ dj : Fin 3, ∑ k : Fin 128, xpad X b (y.val + di.val) (x.val + dj.val) k * K di dj k o

/-- The upper end of the last clip. -/
def six : EReal := Ideal.ofBits .f32 1086324736#32

/-- The small constant under the fusion weights. -/
def eps8 : EReal := Ideal.ofBits .f32 841731191#32
/-- The batch normalisation's constant variance, with its own small constant added. -/
def bnc : EReal := Ideal.ofBits .f32 1065353300#32
/-- The width of one position's features. -/
def c32 : EReal := Ideal.ofBits .f32 1107296256#32

/-- The averaging matrix: one over 32 in the rows of position `q`, zero elsewhere. -/
def avg (e : Fin 512) (q : Fin 16) : EReal := Ideal.div (if e.val / 32 = q.val then 1 else 0) c32

/-- The arguments of both programs, as families of numbers. -/
structure Args where
  s : Fin 4 → Fin 128 → Fin 128 → Fin 128 → EReal
  q : Fin 4 → Fin 128 → Fin 128 → Fin 128 → EReal
  mi : Fin 5 → Fin 128 → EReal
  modw : Fin 640 → Fin 128 → EReal
  modb : Fin 640 → EReal
  c1w : Fin 64 → Fin 640 → EReal
  c1b : Fin 64 → EReal
  c2w : Fin 64 → Fin 128 → EReal
  c2b : Fin 64 → EReal
  pew : Fin 128 → Fin 128 → Fin 4 → Fin 4 → EReal
  peb : Fin 128 → EReal
  peg : Fin 128 → EReal
  pebeta : Fin 128 → EReal
  expw : Fin 128 → Fin 512 → EReal
  fing : Fin 32 → EReal
  finb : Fin 32 → EReal
  upw : Fin 128 → Fin 32 → EReal
  upb : Fin 128 → EReal
  w2 : Fin 2 → EReal
  wpre : Fin 128 → Fin 128 → EReal
  wpost : Fin 128 → Fin 128 → Fin 3 → Fin 3 → EReal
  bng : Fin 128 → EReal
  bnb : Fin 128 → EReal

namespace Args
variable (A : Args)

/-- The two fusion weights: the rectified weights over their sum. -/
def fwt (k : Fin 2) : EReal := Ideal.div (max (A.w2 k) 0) ((∑ l : Fin 2, max (A.w2 l) 0) + eps8)

/-- The kernel's scaled up-projection weights. -/
def wp (e : Fin 32) (o : Fin 128) : EReal := A.fwt 1 * (A.fing e * A.upw o e)

/-- The kernel's front weights: the gates' half, the bypass half and the bias. -/
def wtop (j : Fin 640) (o : Fin 128) : EReal :=
  if h : o.val < 64 then A.c1w ⟨o.val, h⟩ j * A.mi ⟨j.val / 128, by omega⟩ ⟨j.val % 128, by omega⟩ else 0
def wbot (k : Fin 128) (o : Fin 128) : EReal := if h : o.val < 64 then 0 else A.c2w ⟨o.val - 64, by omega⟩ k
def bsn (o : Fin 128) : EReal := if h : o.val < 64 then A.c1b ⟨o.val, h⟩ else A.c2b ⟨o.val - 64, by omega⟩

/-- The kernel's patch features at patch row `i`, patch column `j` of image `b`. -/
def featK (b : Fin 4) (i j : Fin 32) : Fin 128 → EReal :=
  normK (fun o => embedK (fun p q => frontK (fun k n => A.modw n k) A.wtop A.wbot A.bsn
      fun k => A.s b k ⟨i.val * 4 + p.val, by omega⟩ ⟨j.val * 4 + q.val, by omega⟩)
    (fun t o => A.pew o ⟨t.val % 128, by omega⟩ ⟨t.val / 512, by omega⟩ ⟨t.val / 128 % 4, by omega⟩) o + A.peb o) A.peg A.pebeta

/-- The kernel's expansion folded into the up-projection at position `q`. -/
def gall (q : Fin 16) (o k : Fin 128) : EReal := ∑ e : Fin 32, A.expw k ⟨q.val * 32 + e.val, by omega⟩ * A.wp e o

/-- The kernel's fused image before the convolution, at pixel `(y, x)` and channel `o`. -/
def fuseK (b : Fin 4) (y x o : Fin 128) : EReal :=
  dot (fun k => A.q b k y x) (fun k => A.fwt 0 * A.wpre o k)
    + upK (A.featK b ⟨y.val / 4, by omega⟩ ⟨x.val / 4, by omega⟩) A.expw avg
        (dot (A.featK b ⟨y.val / 4, by omega⟩ ⟨x.val / 4, by omega⟩) (A.gall ⟨y.val % 4 * 4 + x.val % 4, by omega⟩ o))
        (∑ e : Fin 32, A.wp e o) (A.fwt 1 * ((∑ e : Fin 32, A.finb e * A.upw o e) + A.upb o)) ⟨y.val % 4 * 4 + x.val % 4, by omega⟩

/-- The kernel's result. -/
def outK (b : Fin 4) (o y x : Fin 128) : EReal :=
  min six (max 0 (conv A.fuseK (fun di dj k o => A.wpost o k di dj) b o y x * (A.bng o * Ideal.div 1 (Ideal.sqrt bnc)) + A.bnb o))

end Args

end Cert.Value
end
-- ==== Proof.Value.ConvArray.lean ====
/- The convolution call's result array, element by element, from the arrays the call is entered with. -/
module

public import proofs.«01_k».proof.Proof.Value.ConvBlock
public import proofs.«01_k».proof.Proof.Value.Spec
public import Idealize.ShloMosaic.Lib.Pipeline.ValueKit

@[expose] public section

noncomputable section

namespace Cert.Value.Conv

open Idealize.ShloMosaic Cert.KernelIdeal Cert.KernelIdeal.Gen Idealize.SL

variable (V : (c : Dev nD) → (b : Ref sig .tc) → Buf (Elt Ideal) ((c.tc : Thread nD τ).loc b)) (c : Dev nD)

/-- Where each window's block sits, at every grid point. -/
theorem places : ∀ t : Fin cfg2.N, win2_0.index t = ![(grid2.coords t 0).val, (grid2.coords t 1).val - 1, 0, 0]
    ∧ win2_1.index t = ![(grid2.coords t 0).val, (grid2.coords t 1).val, 0, 0]
    ∧ win2_2.index t = ![(grid2.coords t 0).val, min ((grid2.coords t 1).val + 1) 1, 0, 0]
    ∧ win2_3.index t = ![0, 0, 0, 0] ∧ win2_4.index t = ![0, 0] ∧ win2_5.index t = ![0, 0]
    ∧ win2_6.index t = ![(grid2.coords t 0).val, 0, (grid2.coords t 1).val, 0] := by decide +kernel

/-- The image a point's batch coordinate names. -/
abbrev bat (t : Fin cfg2.N) : Fin 4 := ⟨(grid2.coords t 0).val, (grid2.coords t 0).isLt⟩
/-- The row chunk a point works on. -/
abbrev chunk (t : Fin cfg2.N) : Fin 2 := ⟨(grid2.coords t 1).val, (grid2.coords t 1).isLt⟩

theorem read_up (t : Fin cfg2.N) (r : Fin 64) (w k : Fin 128) :
    iblk2 V c 0 t (ix4 0 r w k) = V c main_v27 (ix4 (bat t) ⟨((chunk t).val - 1) * 64 + r.val, by omega⟩ w k) := by
  blk_ext [iblk2, places t]
theorem read_centre (t : Fin cfg2.N) (r : Fin 64) (w k : Fin 128) :
    iblk2 V c 1 t (ix4 0 r w k) = V c main_v27 (ix4 (bat t) ⟨(chunk t).val * 64 + r.val, by omega⟩ w k) := by
  blk_ext [iblk2, places t]
theorem read_down (t : Fin cfg2.N) (r : Fin 64) (w k : Fin 128) :
    iblk2 V c 2 t (ix4 0 r w k) = V c main_v27 (ix4 (bat t) ⟨min ((chunk t).val + 1) 1 * 64 + r.val, by omega⟩ w k) := by
  blk_ext [iblk2, places t]
theorem read_w (t : Fin cfg2.N) (di dj : Fin 3) (k o : Fin 128) : iblk2 V c 3 t (ix4 di dj k o) = V c main_v22 (ix4 di dj k o) := by
  blk_ext [iblk2, places t]
theorem read_g (t : Fin cfg2.N) (o : Fin 128) : iblk2 V c 4 t (ix2 0 o) = V c (Pipeline.arrRef spec2 4) (ix2 0 o) := by
  blk_ext [iblk2, places t]
theorem read_b (t : Fin cfg2.N) (o : Fin 128) : iblk2 V c 5 t (ix2 0 o) = V c (Pipeline.arrRef spec2 5) (ix2 0 o) := by
  blk_ext [iblk2, places t]

/-- The flag of the upper halo row is the chunk's number: 0 at the top chunk, 1 at the lower one. -/
theorem flag_up (t : Fin cfg2.N) (n : Fin 2) (h : (chunk t).val = n.val) :
    (Scalar.extui (Scalar.cmpi CmpIPredicate.sgt (BitVec.ofNat 32 (grid2.coords t 1).val) 0#32) : BitVec 32).toInt = (n.val : ℤ) := by
  rw [show (grid2.coords t 1).val = n.val from h]; clear h; revert n; decide
/-- The flag of the lower halo row is the other way round. -/
theorem flag_down (t : Fin cfg2.N) (n : Fin 2) (h : (chunk t).val = n.val) :
    (Scalar.extui (Scalar.cmpi CmpIPredicate.slt (BitVec.ofNat 32 (grid2.coords t 1).val) 1#32) : BitVec 32).toInt = 1 - (n.val : ℤ) := by
  rw [show (grid2.coords t 1).val = n.val from h]; clear h; revert n; decide

theorem up_zero (t : Fin cfg2.N) (h : (chunk t).val = 0) :
    (((Scalar.extui (Scalar.cmpi CmpIPredicate.sgt (BitVec.ofNat 32 (grid2.coords t 1).val) 0#32) : BitVec 32).toInt : ℝ) : EReal) = 0 := by
  rw [flag_up t 0 h]; simp
theorem up_one (t : Fin cfg2.N) (h : (chunk t).val = 1) :
    (((Scalar.extui (Scalar.cmpi CmpIPredicate.sgt (BitVec.ofNat 32 (grid2.coords t 1).val) 0#32) : BitVec 32).toInt : ℝ) : EReal) = 1 := by
  rw [flag_up t 1 h]; simp
theorem down_zero (t : Fin cfg2.N) (h : (chunk t).val = 1) :
    (((Scalar.extui (Scalar.cmpi CmpIPredicate.slt (BitVec.ofNat 32 (grid2.coords t 1).val) 1#32) : BitVec 32).toInt : ℝ) : EReal) = 0 := by
  rw [flag_down t 1 h]; simp
theorem down_one (t : Fin cfg2.N) (h : (chunk t).val = 0) :
    (((Scalar.extui (Scalar.cmpi CmpIPredicate.slt (BitVec.ofNat 32 (grid2.coords t 1).val) 1#32) : BitVec 32).toInt : ℝ) : EReal) = 1 := by
  rw [flag_down t 0 h]; simp

/-- The image the call reads. -/
def img (b : Fin 4) (y x k : Fin 128) : EReal := V c main_v27 (ix4 b y x k)

theorem img_congr (b y y' x k) (h : y.val = y'.val) : V c main_v27 (ix4 b y x k) = img V c b y' x k := by
  rw [Fin.ext h]; rfl

/-- The chunk with its halo is a window of the zero-padded image: the halo rows that lie outside the image are
    multiplied by zero. -/
theorem ext_eq (t : Fin cfg2.N) (r : Fin 66) (w : Fin 130) (k : Fin 128) :
    ext (grid2.coords t) (iblk2 V c 0 t) (iblk2 V c 1 t) (iblk2 V c 2 t) r w k
      = xpad (img V c) (bat t) ((chunk t).val * 64 + r.val) w.val k := by
  have hi := (chunk t).isLt
  have hr := r.isLt
  unfold ext xpad
  by_cases hw : 1 ≤ w.val ∧ w.val ≤ 128
  · rw [dif_pos hw]
    unfold row
    rw [read_up, read_down]
    by_cases h0 : r.val < 1
    · rw [if_pos h0]
      by_cases hc : (chunk t).val = 0
      · rw [dif_neg (by omega), up_zero t hc, mul_zero]
      · have hc1 : (chunk t).val = 1 := by omega
        rw [dif_pos ⟨by omega, hw⟩]
        rw [up_one t hc1, mul_one]
        refine img_congr V c _ _ _ _ _ ?_
        show ((chunk t).val - 1) * 64 + 63 = (chunk t).val * 64 + r.val - 1
        omega
    · rw [if_neg h0]
      by_cases h1 : r.val - 1 < 64
      · rw [dif_pos h1, dif_pos ⟨by omega, hw⟩, read_centre]
        simp only [img]
        congr 2
        exact Fin.ext (by simp only []; omega)
      · rw [dif_neg h1]
        by_cases hc : (chunk t).val = 0
        · rw [dif_pos ⟨by omega, hw⟩]
          rw [down_one t hc, mul_one]
          refine img_congr V c _ _ _ _ _ ?_
          show min ((chunk t).val + 1) 1 * 64 + 0 = (chunk t).val * 64 + r.val - 1
          omega
        · have hc1 : (chunk t).val = 1 := by omega
          rw [dif_neg (by omega), down_zero t hc1, mul_zero]
  · rw [dif_neg hw, dif_neg (fun h => hw h.2)]

/-- The convolution call's result: the 3 by 3 convolution, scaled, shifted and clipped to `[0, 6]`. -/
def res (b : Fin 4) (o y x : Fin 128) : EReal :=
  min six (max 0 (conv (img V c) (fun di dj k o => V c main_v22 (ix4 di dj k o)) b o y x
    * (V c (Pipeline.arrRef spec2 4) (ix2 0 o) : EReal) + (V c (Pipeline.arrRef spec2 5) (ix2 0 o) : EReal)))

theorem point (t : Fin cfg2.N) (o : Fin 128) (r : Fin 64) (w : Fin 128) :
    out2_6 (F := Ideal) (grid2.coords t) (iblk2 V c 0 t) (iblk2 V c 1 t) (iblk2 V c 2 t) (iblk2 V c 3 t) (iblk2 V c 4 t) (iblk2 V c 5 t) (ix4 0 o r w)
      = res V c (bat t) o ⟨(chunk t).val * 64 + r.val, by omega⟩ w := by
  rw [out_apply, read_g, read_b]
  unfold res conv tap six
  simp only [ext_eq, read_w]
  congr 5
  funext di; congr 1; funext dj; congr 1; funext k
  congr 2
  show (chunk t).val * 64 + (di.val + r.val) = (chunk t).val * 64 + r.val + di.val
  omega

theorem arr : (dat2 V c).arrAt 6 cfg2.N = fun j : S4x128x128x128.Idx => res V c (j 0) (j 1) (j 2) (j 3) := by
  refine (dat2 V c).arrAt_eq_of_covers 6 _ (by decide +kernel) fun t hf y => ?_
  blk_simp
  rw [after2_6]
  have hy : y = ix4 (0 : Fin 1) (y 1 : Fin 128) (y 2 : Fin 64) (y 3 : Fin 128) := by
    funext a; fin_cases a <;> first | rfl | exact Fin.ext (by have : (y 0).val < 1 := (y 0).isLt; show (y 0).val = 0; omega)
  refine (congrArg _ hy).trans ((point V c t (y 1) (y 2) (y 3)).trans ?_)
  suffices ∀ A : S4x128x128x128.Idx → EReal, A (ix4 (bat t) (y 1 : Fin 128)
      ⟨(chunk t).val * 64 + (y 2).val, by have := (chunk t).isLt; have : (y 2).val < 64 := (y 2).isLt; omega⟩ (y 3 : Fin 128))
        = A ((win2_6.blk t).view.emb y) from this (fun j => res V c (j 0) (j 1) (j 2) (j 3))
  intro A
  blk_ext [places t]

end Cert.Value.Conv
end
-- ==== Proof.Value.FuseBlock.lean ====
/- What the fuse call's body writes, element by element. -/
module

public import proofs.«01_k».proof.Proof.Frame.KernelIdeal.Fuse
public import proofs.«01_k».proof.Proof.Value.Spec
public import Idealize.ShloMosaic.Lib.Pipeline.Value

@[expose] public section

noncomputable section

namespace Cert.Value.Fuse

open Idealize.ShloMosaic Cert.KernelIdeal Cert.KernelIdeal.Gen

variable (x0 x1 : Vec Ideal S1x128x64x128 .f32) (x2 : Vec Ideal S128x640 .f32) (x3 : Vec Ideal S1x640 .f32) (x4 : Vec Ideal S640x128 .f32) (x5 : Vec Ideal S128x128 .f32) (x6 : Vec Ideal S1x128 .f32) (x7 : Vec Ideal S2048x128 .f32) (x8 x9 x10 : Vec Ideal S1x128 .f32) (x11 : Vec Ideal S128x512 .f32) (x12 : Vec Ideal S512x16 .f32) (x13 : Vec Ideal S128x2048 .f32) (x14 x15 : Vec Ideal S1x128 .f32) (x16 : Vec Ideal S128x128 .f32)

/-- The embedding of patch `p` of the block (before its bias). -/
def emb (p : Fin 512) : Fin 128 → EReal :=
  embedK (fun a b => frontK (fun c j => x2 (ix2 c j)) (fun j o => x4 (ix2 j o)) (fun c o => x5 (ix2 c o)) (fun o => x6 (ix2 0 o))
      fun c => x0 (ix4 0 c ⟨p.val / 32 * 4 + a.val, by omega⟩ ⟨p.val % 32 * 4 + b.val, by omega⟩))
    (fun t o => x7 (ix2 t o))

/-- Its layer normalisation. -/
def feat (p : Fin 512) : Fin 128 → EReal :=
  normK (fun o => emb x0 x2 x4 x5 x6 x7 p o + x8 (ix2 0 o)) (fun o => x9 (ix2 0 o)) (fun o => x10 (ix2 0 o))

theorem emb_apply (p : Fin 512) (o : Fin 128) :
    k1_pay8 (F := Ideal) x0 x1 x2 x3 x4 x5 x6 x7 x8 x9 x10 x11 x12 x13 x14 x15 x16 (ix2 p o) = emb x0 x2 x4 x5 x6 x7 p o := by
  pointwise [k1_pay8, k1_pay2, r1_0, r1_1, r1_2, r1_3, r1_4, r1_5]
  unfold emb embedK frontK unit
  refine Finset.sum_congr rfl fun t _ => ?_
  have ht := t.isLt
  have hp := p.isLt
  have e1 : (p.val / 32 * 512 + t.val / 512 * 128 + p.val % 32 * 4 + t.val / 128 % 4) / 128 = p.val / 32 * 4 + t.val / 512 := by omega
  have e2 : (p.val / 32 * 512 + t.val / 512 * 128 + p.val % 32 * 4 + t.val / 128 % 4) % 128 = p.val % 32 * 4 + t.val / 128 % 4 := by omega
  simp only [e1, e2]
  rfl

theorem feat_apply (p : Fin 512) (o : Fin 128) :
    k1_pay4 (F := Ideal) (k1_pay8 x0 x1 x2 x3 x4 x5 x6 x7 x8 x9 x10 x11 x12 x13 x14 x15 x16) (k1_pay9 x0 x1 x2 x3 x4 x5 x6 x7 x8 x9 x10 x11 x12 x13 x14 x15 x16) (View.ld x9 r1_4) (View.ld x10 r1_4) (ix2 p o)
      = feat x0 x2 x4 x5 x6 x7 x8 x9 x10 p o := by
  pointwise [k1_pay4, k1_pay9, k1_pay3, r1_4]
  simp only [emb_apply]
  rfl

/-- What the fuse call's body leaves in its output block: the query's projection plus the fused up-projection of the
    pixel's patch. -/
theorem out_apply (r : Fin 64) (w c : Fin 128) :
    out1_17 (F := Ideal) x0 x1 x2 x3 x4 x5 x6 x7 x8 x9 x10 x11 x12 x13 x14 x15 x16 (ix4 0 r w c)
      = ∑ k, x1 (ix4 0 k r w) * x16 (ix2 k c)
        + upK (feat x0 x2 x4 x5 x6 x7 x8 x9 x10 ⟨r.val / 4 * 32 + w.val / 4, by omega⟩) (fun k e => x11 (ix2 k e)) (fun e q => x12 (ix2 e q))
            (∑ k, feat x0 x2 x4 x5 x6 x7 x8 x9 x10 ⟨r.val / 4 * 32 + w.val / 4, by omega⟩ k
              * x13 (ix2 k ⟨(r.val % 4 * 4 + w.val % 4) * 128 + c.val, by omega⟩))
            (x14 (ix2 0 c)) (x15 (ix2 0 c)) ⟨r.val % 4 * 4 + w.val % 4, by omega⟩ := by
  unfold out1_17
  rw [View.canon_unit_zero (by funext a; fin_cases a <;> rfl)]
  pointwise [k1_pay1, k1_pay6, k1_pay7, k1_pay5, r1_0, r1_3, r1_4, r1_6, r1_7, r1_8]
  have hr := r.isLt
  have hw := w.isLt
  have e1 : (r.val * 128 + w.val) / 512 * 32 + (r.val * 128 + w.val) / 4 % 32 = r.val / 4 * 32 + w.val / 4 := by omega
  have e2 : (r.val * 128 + w.val) / 128 % 4 * 4 + (r.val * 128 + w.val) % 4 = r.val % 4 * 4 + w.val % 4 := by omega
  simp only [e1, e2, feat_apply]
  rfl

end Cert.Value.Fuse
end
-- ==== Proof.Value.FuseArray.lean ====
/- The fuse call's result array, element by element, from the arrays the call is entered with. -/
module

public import proofs.«01_k».proof.Proof.Value.FuseBlock
public import Idealize.ShloMosaic.Lib.Pipeline.ValueKit

@[expose] public section

noncomputable section

namespace Cert.Value.Fuse

open Idealize.ShloMosaic Cert.KernelIdeal Cert.KernelIdeal.Gen Idealize.SL

variable (V : (c : Dev nD) → (b : Ref sig .tc) → Buf (Elt Ideal) ((c.tc : Thread nD τ).loc b)) (c : Dev nD)

/-- Where the image windows' blocks sit, at every grid point. -/
theorem places : ∀ t : Fin cfg1.N, win1_0.index t = ![(grid1.coords t 0).val, 0, (grid1.coords t 1).val, 0]
    ∧ win1_1.index t = ![(grid1.coords t 0).val, 0, (grid1.coords t 1).val, 0]
    ∧ win1_17.index t = ![(grid1.coords t 0).val, (grid1.coords t 1).val, 0, 0] := by decide +kernel

/-- The weights' windows hold their whole arrays. -/
theorem places_w : ∀ t : Fin cfg1.N, win1_2.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![0, 0] ∧ win1_12.index t = ![0, 0] ∧ win1_13.index t = ![0, 0]
    ∧ win1_14.index t = ![0, 0] ∧ win1_15.index t = ![0, 0] ∧ win1_16.index t = ![0, 0] := by decide +kernel

/-- The image a point's batch coordinate names. -/
abbrev bat (t : Fin cfg1.N) : Fin 4 := ⟨(grid1.coords t 0).val, (grid1.coords t 0).isLt⟩
/-- The row chunk a point works on. -/
abbrev chunk (t : Fin cfg1.N) : Fin 2 := ⟨(grid1.coords t 1).val, (grid1.coords t 1).isLt⟩

theorem read_s (t : Fin cfg1.N) (k : Fin 128) (r : Fin 64) (w : Fin 128) :
    iblk1 V c 0 t (ix4 0 k r w) = V c main_arg0 (ix4 (bat t) k ⟨(chunk t).val * 64 + r.val, by omega⟩ w) := by
  blk_ext [iblk1, places t]
theorem read_q (t : Fin cfg1.N) (k : Fin 128) (r : Fin 64) (w : Fin 128) :
    iblk1 V c 1 t (ix4 0 k r w) = V c main_arg1 (ix4 (bat t) k ⟨(chunk t).val * 64 + r.val, by omega⟩ w) := by
  blk_ext [iblk1, places t]
theorem read2 (t : Fin cfg1.N) (a : Fin 128) (b : Fin 640) : iblk1 V c 2 t (ix2 a b) = V c main_v9_0 (ix2 a b) := by
  blk_ext [iblk1, places_w t]
theorem read4 (t : Fin cfg1.N) (a : Fin 640) (b : Fin 128) : iblk1 V c 4 t (ix2 a b) = V c main_v9_1 (ix2 a b) := by
  blk_ext [iblk1, places_w t]
theorem read5 (t : Fin cfg1.N) (a b : Fin 128) : iblk1 V c 5 t (ix2 a b) = V c main_v9_2 (ix2 a b) := by
  blk_ext [iblk1, places_w t]
theorem read6 (t : Fin cfg1.N) (b : Fin 128) : iblk1 V c 6 t (ix2 0 b) = V c main_v9_3 (ix2 0 b) := by
  blk_ext [iblk1, places_w t]
theorem read7 (t : Fin cfg1.N) (a : Fin 2048) (b : Fin 128) : iblk1 V c 7 t (ix2 a b) = V c main_v11 (ix2 a b) := by
  blk_ext [iblk1, places_w t]
theorem read8 (t : Fin cfg1.N) (b : Fin 128) : iblk1 V c 8 t (ix2 0 b) = V c main_v24 (ix2 0 b) := by
  blk_ext [iblk1, places_w t]
theorem read9 (t : Fin cfg1.N) (b : Fin 128) : iblk1 V c 9 t (ix2 0 b) = V c main_v25 (ix2 0 b) := by
  blk_ext [iblk1, places_w t]
theorem read10 (t : Fin cfg1.N) (b : Fin 128) : iblk1 V c 10 t (ix2 0 b) = V c main_v26 (ix2 0 b) := by
  blk_ext [iblk1, places_w t]
theorem read11 (t : Fin cfg1.N) (a : Fin 128) (b : Fin 512) : iblk1 V c 11 t (ix2 a b) = V c main_arg13 (ix2 a b) := by
  blk_ext [iblk1, places_w t]
theorem read12 (t : Fin cfg1.N) (a : Fin 512) (b : Fin 16) : iblk1 V c 12 t (ix2 a b) = V c main_v21 (ix2 a b) := by
  blk_ext [iblk1, places_w t]
theorem read13 (t : Fin cfg1.N) (a : Fin 128) (b : Fin 2048) : iblk1 V c 13 t (ix2 a b) = V c main_v9_4 (ix2 a b) := by
  blk_ext [iblk1, places_w t]
theorem read14 (t : Fin cfg1.N) (b : Fin 128) : iblk1 V c 14 t (ix2 0 b) = V c main_v9_5 (ix2 0 b) := by
  blk_ext [iblk1, places_w t]
theorem read15 (t : Fin cfg1.N) (b : Fin 128) : iblk1 V c 15 t (ix2 0 b) = V c main_v9_6 (ix2 0 b) := by
  blk_ext [iblk1, places_w t]
theorem read16 (t : Fin cfg1.N) (a b : Fin 128) : iblk1 V c 16 t (ix2 a b) = V c main_v9_7 (ix2 a b) := by
  blk_ext [iblk1, places_w t]

/-- The embedding of the 4 by 4 patch at patch row `i`, patch column `j` of image `b` (before its bias). -/
def embA (b : Fin 4) (i j : Fin 32) : Fin 128 → EReal :=
  embedK (fun p q => frontK (fun k j => V c main_v9_0 (ix2 k j)) (fun j o => V c main_v9_1 (ix2 j o)) (fun k o => V c main_v9_2 (ix2 k o))
      (fun o => V c main_v9_3 (ix2 0 o))
      fun k => V c main_arg0 (ix4 b k ⟨i.val * 4 + p.val, by omega⟩ ⟨j.val * 4 + q.val, by omega⟩))
    (fun t o => V c main_v11 (ix2 t o))

/-- Its layer normalisation. -/
def featA (b : Fin 4) (i j : Fin 32) : Fin 128 → EReal :=
  normK (fun o => embA V c b i j o + (V c main_v24 (ix2 0 o) : EReal)) (fun o => V c main_v25 (ix2 0 o)) (fun o => V c main_v26 (ix2 0 o))

/-- The fuse call's result: the query's projection plus the fused up-projection of the pixel's patch. -/
def res (b : Fin 4) (y x : Fin 128) (o : Fin 128) : EReal :=
  dot (fun k => V c main_arg1 (ix4 b k y x)) (fun k => V c main_v9_7 (ix2 k o))
    + upK (featA V c b ⟨y.val / 4, by omega⟩ ⟨x.val / 4, by omega⟩) (fun k e => V c main_arg13 (ix2 k e)) (fun e q => V c main_v21 (ix2 e q))
        (dot (featA V c b ⟨y.val / 4, by omega⟩ ⟨x.val / 4, by omega⟩)
          fun k => V c main_v9_4 (ix2 k ⟨(y.val % 4 * 4 + x.val % 4) * 128 + o.val, by omega⟩))
        (V c main_v9_5 (ix2 0 o)) (V c main_v9_6 (ix2 0 o)) ⟨y.val % 4 * 4 + x.val % 4, by omega⟩

theorem feat_eq (t : Fin cfg1.N) (p : Fin 512) :
    feat (iblk1 V c 0 t) (iblk1 V c 2 t) (iblk1 V c 4 t) (iblk1 V c 5 t) (iblk1 V c 6 t) (iblk1 V c 7 t) (iblk1 V c 8 t) (iblk1 V c 9 t) (iblk1 V c 10 t) p
      = featA V c (bat t) ⟨(chunk t).val * 16 + p.val / 32, by omega⟩ ⟨p.val % 32, by omega⟩ := by
  unfold feat featA emb embA
  simp only [read_s, read2, read4, read5, read6, read7, read8, read9, read10]
  have e : ∀ a : Fin 4, (chunk t).val * 64 + (p.val / 32 * 4 + a.val) = ((chunk t).val * 16 + p.val / 32) * 4 + a.val := fun a => by omega
  simp only [e]

theorem point (t : Fin cfg1.N) (r : Fin 64) (w : Fin 128) (o : Fin 128) :
    out1_17 (F := Ideal) (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) (iblk1 V c 11 t) (iblk1 V c 12 t) (iblk1 V c 13 t) (iblk1 V c 14 t)
        (iblk1 V c 15 t) (iblk1 V c 16 t) (ix4 0 r w o)
      = res V c (bat t) ⟨(chunk t).val * 64 + r.val, by omega⟩ w o := by
  rw [out_apply, feat_eq]
  unfold res dot
  simp only [read_q, read11, read12, read13, read14, read15, read16]
  have hr := r.isLt
  have hw := w.isLt
  have e1 : (chunk t).val * 16 + (r.val / 4 * 32 + w.val / 4) / 32 = ((chunk t).val * 64 + r.val) / 4 := by omega
  have e2 : (r.val / 4 * 32 + w.val / 4) % 32 = w.val / 4 := by omega
  have e3 : ((chunk t).val * 64 + r.val) % 4 = r.val % 4 := by omega
  simp only [e1, e2, e3]

theorem arr : (dat1 V c).arrAt 17 cfg1.N = fun j : S4x128x128x128.Idx => res V c (j 0) (j 1) (j 2) (j 3) := by
  refine (dat1 V c).arrAt_eq_of_covers 17 _ (by decide +kernel) fun t hf y => ?_
  blk_simp
  rw [after1_17]
  have hy : y = ix4 (0 : Fin 1) (y 1 : Fin 64) (y 2 : Fin 128) (y 3 : Fin 128) := by
    funext a; fin_cases a <;> first | rfl | exact Fin.ext (by have : (y 0).val < 1 := (y 0).isLt; show (y 0).val = 0; omega)
  refine (congrArg _ hy).trans ((point V c t (y 1) (y 2) (y 3)).trans ?_)
  suffices ∀ A : S4x128x128x128.Idx → EReal, A (ix4 (bat t)
      ⟨(chunk t).val * 64 + (y 1).val, by have := (chunk t).isLt; have : (y 1).val < 64 := (y 1).isLt; omega⟩ (y 2 : Fin 128) (y 3 : Fin 128))
        = A ((win1_17.blk t).view.emb y) from this (fun j => res V c (j 0) (j 1) (j 2) (j 3))
  intro A
  blk_ext [places t]

end Cert.Value.Fuse
end
-- ==== Proof.Value.PrepBlock.lean ====
/- What the weight-preparation call's body writes, element by element. -/
module

public import proofs.«01_k».proof.Proof.Frame.KernelIdeal.Prep
public import Idealize.ShloMosaic.Lib.Pointwise
public import Idealize.ShloMosaic.Lib.Pipeline.Value
public import Idealize.ShloMosaic.Lib.Pipeline.ValueKit.Tiles

@[expose] public section

noncomputable section

namespace Cert.Value.Prep

open Idealize.ShloMosaic Cert.KernelIdeal Cert.KernelIdeal.Gen

variable (x0 : Vec Ideal S1x640 .f32) (x1 : Vec Ideal S640x128 .f32) (x2 : Vec Ideal S64x640 .f32) (x3 : Vec Ideal S1x64 .f32)
  (x4 : Vec Ideal S64x128 .f32) (x5 : Vec Ideal S1x64 .f32) (x6 : Vec Ideal S128x512 .f32) (x7 x8 : Vec Ideal S1x32 .f32)
  (x9 : Vec Ideal S128x32 .f32) (x10 : Vec Ideal S1x128 .f32) (x11 : Vec Ideal S1x2 .f32) (x12 : Vec Ideal S128x128 .f32)
  (x13 x14 : Vec Ideal S1x128 .f32)

/-- The two fusion weights: the rectified weights over their sum (plus a small constant). -/
def fwt (k : Fin 2) : EReal :=
  Ideal.div (max (x11 (ix2 0 k)) 0) ((∑ l : Fin 2, max (x11 (ix2 0 l)) 0) + Ideal.ofBits .f32 841731191#32)

/-- The up-projection's weights, each row scaled by the last normalisation's gain and the second fusion weight. -/
def wp (e : Fin 32) (o : Fin 128) : EReal := fwt x11 1 * (x7 (ix2 0 e) * x9 (ix2 o e))

/-- The gate weights, transposed. -/
theorem modwT_apply (c : Fin 128) (j : Fin 640) :
    out0_15 (F := Ideal) x0 x1 x2 x3 x4 x5 x6 x7 x8 x9 x10 x11 x12 x13 x14 (ix2 c j)
      = x1 (ix2 j c) := by
  unfold out0_15
  rw [View.canon_unit_zero (by funext a; fin_cases a <;> rfl)]
  pointwise [k0_pay8, r0_1]

/-- The first half's weights, each scaled by its memory entry; the second half's columns are zero. -/
theorem wtop_apply (j : Fin 640) (o : Fin 128) :
    out0_16 (F := Ideal) x0 x1 x2 x3 x4 x5 x6 x7 x8 x9 x10 x11 x12 x13 x14 (ix2 j o)
      = if h : o.val < 64 then x2 (ix2 ⟨o.val, h⟩ j) * x0 (ix2 0 j) else 0 := by
  unfold out0_16
  rw [View.canon_unit_zero (by funext a; fin_cases a <;> rfl)]
  pointwise [k0_pay9, r0_3, r0_4]

/-- The second half's weights; the first half's columns are zero. -/
theorem wbot_apply (c : Fin 128) (o : Fin 128) :
    out0_17 (F := Ideal) x0 x1 x2 x3 x4 x5 x6 x7 x8 x9 x10 x11 x12 x13 x14 (ix2 c o)
      = if h : o.val < 64 then 0 else x4 (ix2 ⟨o.val - 64, by omega⟩ c) := by
  unfold out0_17
  rw [View.canon_unit_zero (by funext a; fin_cases a <;> rfl)]
  pointwise [k0_pay10, r0_5]

/-- The two halves' biases, side by side. -/
theorem bsn_apply (o : Fin 128) :
    out0_18 (F := Ideal) x0 x1 x2 x3 x4 x5 x6 x7 x8 x9 x10 x11 x12 x13 x14 (ix2 0 o)
      = if h : o.val < 64 then x3 (ix2 0 ⟨o.val, h⟩) else x5 (ix2 0 ⟨o.val - 64, by omega⟩) := by
  unfold out0_18
  rw [View.canon_unit_zero (by funext a; fin_cases a <;> rfl)]
  pointwise [k0_pay12, k0_pay11, r0_7]

/-- The scaled up-projection weights, as the body holds them. -/
theorem wp_apply (e : Fin 32) (o : Fin 128) :
    k0_pay34 (F := Ideal) x0 x1 x2 x3 x4 x5 x6 x7 x8 x9 x10 x11 x12 x13 x14 (ix2 e o) = wp x7 x9 x11 e o := by
  pointwise [k0_pay34, k0_pay33, k0_pay14, k0_pay13, k0_pay7, k0_pay5, r0_0, r0_9, r0_10]
  unfold wp fwt
  simp only [Finset.univ_unique, Finset.sum_singleton]

/-- The expansion folded into the up-projection, position by position: column block `n / 128` belongs to the expansion's
    columns `32 * (n / 128) ..`. -/
theorem gall_apply (k : Fin 128) (n : Fin 2048) :
    out0_19 (F := Ideal) x0 x1 x2 x3 x4 x5 x6 x7 x8 x9 x10 x11 x12 x13 x14 (ix2 k n)
      = ∑ e : Fin 32, x6 (ix2 k ⟨n.val / 128 * 32 + e.val, by omega⟩) * wp x7 x9 x11 e ⟨n.val % 128, by omega⟩ := by
  have tile : ∀ (w : FVec Ideal S32x128 .f32) (hw : ∀ e o, w (ix2 e o) = wp x7 x9 x11 e o) (v : FVec Ideal S128x32 .f32) (off : ℕ)
      (x : S128x128.Idx) (h0 : k.val = (x 0).val) (h1 : n.val = off + (x 1).val) (hm : off % 128 = 0)
      (hv : ∀ (k : Fin 128) (e : Fin 32) (h : off / 128 * 32 + e.val < 512), v (ix2 k e) = x6 (ix2 k ⟨off / 128 * 32 + e.val, h⟩)),
      matmul (F := Ideal) dot_S128x32_S32x128_S128x128_1_0_0_1_n_n none v w (constant S128x128 .f32 0x00000000#32) x
        = ∑ e : Fin 32, x6 (ix2 k ⟨n.val / 128 * 32 + e.val, by omega⟩) * wp x7 x9 x11 e ⟨n.val % 128, by omega⟩ := by
    intro w hw v off x h0 h1 hm hv
    have hx : ∀ a b : Fin 128, k = a → n.val = off + b.val →
        matmul (F := Ideal) dot_S128x32_S32x128_S128x128_1_0_0_1_n_n none v w (constant S128x128 .f32 0x00000000#32) (ix2 a b)
          = ∑ e : Fin 32, x6 (ix2 k ⟨n.val / 128 * 32 + e.val, by omega⟩) * wp x7 x9 x11 e ⟨n.val % 128, by omega⟩ := by
      intro a b ha hb
      subst ha
      pointwise []
      refine Finset.sum_congr rfl fun e _ => ?_
      have e1 : n.val / 128 = off / 128 := by omega
      have e2 : n.val % 128 = b.val := by omega
      rw [hv k e (by omega), hw]
      simp only [e1, e2]
    have e : x = ix2 (x 0 : Fin 128) (x 1 : Fin 128) := by funext i; fin_cases i <;> rfl
    exact (congrArg _ e).trans (hx (x 0) (x 1) (Fin.ext h0) h1)
  have w := wp_apply x0 x1 x2 x3 x4 x5 x6 x7 x8 x9 x10 x11 x12 x13 x14
  canon_tiles x h
  case piece15 => exact tile _ w _ 0 x h0 (by rw [Nat.zero_add]; exact h1) rfl (fun k e h => by pointwise [r0_11])
  all_goals exact tile _ w _ _ x h0 h1 rfl (fun k e h => by
    pointwise [r0_13, r0_15, r0_17, r0_19, r0_21, r0_23, r0_25, r0_27, r0_29, r0_31, r0_33, r0_35, r0_37, r0_39, r0_41])

/-- The scaled up-projection's column sums. -/
theorem kvec_apply (o : Fin 128) :
    out0_20 (F := Ideal) x0 x1 x2 x3 x4 x5 x6 x7 x8 x9 x10 x11 x12 x13 x14 (ix2 0 o)
      = ∑ e : Fin 32, wp x7 x9 x11 e o := by
  unfold out0_20
  rw [View.canon_unit_zero (by funext a; fin_cases a <;> rfl)]
  pointwise [k0_pay31]
  simp only [wp_apply]
/-- The up-projection of the last normalisation's bias, plus its own, scaled. -/
theorem coff_apply (o : Fin 128) :
    out0_21 (F := Ideal) x0 x1 x2 x3 x4 x5 x6 x7 x8 x9 x10 x11 x12 x13 x14 (ix2 0 o)
      = fwt x11 1 * ((∑ e : Fin 32, x8 (ix2 0 e) * x9 (ix2 o e)) + x10 (ix2 0 o)) := by
  unfold out0_21
  rw [View.canon_unit_zero (by funext a; fin_cases a <;> rfl)]
  pointwise [k0_pay1, k0_pay33, k0_pay32, k0_pay13, k0_pay7, k0_pay5, r0_0, r0_9, r0_10, r0_8]
  simp only [fwt, Finset.univ_unique, Finset.sum_singleton]
/-- The query's weights, transposed and scaled. -/
theorem wpre_apply (c o : Fin 128) :
    out0_22 (F := Ideal) x0 x1 x2 x3 x4 x5 x6 x7 x8 x9 x10 x11 x12 x13 x14 (ix2 c o)
      = fwt x11 0 * x12 (ix2 o c) := by
  unfold out0_22
  rw [View.canon_unit_zero (by funext a; fin_cases a <;> rfl)]
  pointwise [k0_pay2, k0_pay6, k0_pay5, r0_0, r0_6]
  simp only [fwt, Finset.univ_unique, Finset.sum_singleton]
/-- The batch normalisation's gain over its constant deviation. -/
theorem bns_apply (o : Fin 128) :
    out0_23 (F := Ideal) x0 x1 x2 x3 x4 x5 x6 x7 x8 x9 x10 x11 x12 x13 x14 (ix2 0 o)
      = x13 (ix2 0 o) * Ideal.div 1 (Ideal.sqrt (Ideal.ofBits .f32 1065353300#32)) := by
  unfold out0_23
  rw [View.canon_unit_zero (by funext a; fin_cases a <;> rfl)]
  pointwise [k0_pay3, r0_8]
  rfl
/-- The batch normalisation's bias. -/
theorem bnb_apply (o : Fin 128) :
    out0_24 (F := Ideal) x0 x1 x2 x3 x4 x5 x6 x7 x8 x9 x10 x11 x12 x13 x14 (ix2 0 o)
      = x14 (ix2 0 o) := by
  unfold out0_24
  rw [View.canon_unit_zero (by funext a; fin_cases a <;> rfl)]
  pointwise [k0_pay4, r0_8]

end Cert.Value.Prep
end
-- ==== Proof.Value.PrepArray.lean ====
/- The weight-preparation call's result arrays, element by element, from the arrays the call is entered with. -/
module

public import proofs.«01_k».proof.Proof.Value.PrepBlock
public import Idealize.ShloMosaic.Lib.Pipeline.ValueKit

@[expose] public section

noncomputable section

namespace Cert.Value.Prep

open Idealize.ShloMosaic Cert.KernelIdeal Cert.KernelIdeal.Gen Idealize.SL

variable (V : (c : Dev nD) → (b : Ref sig .tc) → Buf (Elt Ideal) ((c.tc : Thread nD τ).loc b)) (c : Dev nD)

/-- Every window holds its whole array. -/
theorem places : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] ∧ win0_24.index t = ![0, 0] := by decide +kernel

theorem read0 (t : Fin cfg0.N) : iblk0 V c 0 t = V c main_v0 := by
  funext y; blk_ext [iblk0, places t]
theorem read1 (t : Fin cfg0.N) : iblk0 V c 1 t = V c main_arg3 := by
  funext y; blk_ext [iblk0, places t]
theorem read2 (t : Fin cfg0.N) : iblk0 V c 2 t = V c main_arg5 := by
  funext y; blk_ext [iblk0, places t]
theorem read3 (t : Fin cfg0.N) : iblk0 V c 3 t = V c main_v1 := by
  funext y; blk_ext [iblk0, places t]
theorem read4 (t : Fin cfg0.N) : iblk0 V c 4 t = V c main_arg7 := by
  funext y; blk_ext [iblk0, places t]
theorem read5 (t : Fin cfg0.N) : iblk0 V c 5 t = V c main_v2 := by
  funext y; blk_ext [iblk0, places t]
theorem read6 (t : Fin cfg0.N) : iblk0 V c 6 t = V c main_arg13 := by
  funext y; blk_ext [iblk0, places t]
theorem read7 (t : Fin cfg0.N) : iblk0 V c 7 t = V c main_v3 := by
  funext y; blk_ext [iblk0, places t]
theorem read8 (t : Fin cfg0.N) : iblk0 V c 8 t = V c main_v4 := by
  funext y; blk_ext [iblk0, places t]
theorem read9 (t : Fin cfg0.N) : iblk0 V c 9 t = V c main_arg16 := by
  funext y; blk_ext [iblk0, places t]
theorem read10 (t : Fin cfg0.N) : iblk0 V c 10 t = V c main_v5 := by
  funext y; blk_ext [iblk0, places t]
theorem read11 (t : Fin cfg0.N) : iblk0 V c 11 t = V c main_v6 := by
  funext y; blk_ext [iblk0, places t]
theorem read12 (t : Fin cfg0.N) : iblk0 V c 12 t = V c main_arg19 := by
  funext y; blk_ext [iblk0, places t]
theorem read13 (t : Fin cfg0.N) : iblk0 V c 13 t = V c main_v7 := by
  funext y; blk_ext [iblk0, places t]
theorem read14 (t : Fin cfg0.N) : iblk0 V c 14 t = V c main_v8 := by
  funext y; blk_ext [iblk0, places t]

/-- An array whose one block is the whole of it is what the body leaves in that block. -/
theorem arr15 : (dat0 V c).arrAt 15 cfg0.N = out0_15 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 15 _ (by decide +kernel) fun t hf y => ?_
  blk_simp
  rw [after0_15, read0, read1, read2, read3, read4, read5, read6, read7, read8, read9, read10, read11, read12, read13, read14]
  exact (fun (A : S128x640.Idx → EReal) => (by blk_ext [places t] : A y = A ((win0_15.blk t).view.emb y))) _
theorem arr16 : (dat0 V c).arrAt 16 cfg0.N = out0_16 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 16 _ (by decide +kernel) fun t hf y => ?_
  blk_simp
  rw [after0_16, read0, read1, read2, read3, read4, read5, read6, read7, read8, read9, read10, read11, read12, read13, read14]
  exact (fun (A : S640x128.Idx → EReal) => (by blk_ext [places t] : A y = A ((win0_16.blk t).view.emb y))) _
theorem arr17 : (dat0 V c).arrAt 17 cfg0.N = out0_17 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 17 _ (by decide +kernel) fun t hf y => ?_
  blk_simp
  rw [after0_17, read0, read1, read2, read3, read4, read5, read6, read7, read8, read9, read10, read11, read12, read13, read14]
  exact (fun (A : S128x128.Idx → EReal) => (by blk_ext [places t] : A y = A ((win0_17.blk t).view.emb y))) _
theorem arr18 : (dat0 V c).arrAt 18 cfg0.N = out0_18 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 18 _ (by decide +kernel) fun t hf y => ?_
  blk_simp
  rw [after0_18, read0, read1, read2, read3, read4, read5, read6, read7, read8, read9, read10, read11, read12, read13, read14]
  exact (fun (A : S1x128.Idx → EReal) => (by blk_ext [places t] : A y = A ((win0_18.blk t).view.emb y))) _
theorem arr19 : (dat0 V c).arrAt 19 cfg0.N = out0_19 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 19 _ (by decide +kernel) fun t hf y => ?_
  blk_simp
  rw [after0_19, read0, read1, read2, read3, read4, read5, read6, read7, read8, read9, read10, read11, read12, read13, read14]
  exact (fun (A : S128x2048.Idx → EReal) => (by blk_ext [places t] : A y = A ((win0_19.blk t).view.emb y))) _
theorem arr20 : (dat0 V c).arrAt 20 cfg0.N = out0_20 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 20 _ (by decide +kernel) fun t hf y => ?_
  blk_simp
  rw [after0_20, read0, read1, read2, read3, read4, read5, read6, read7, read8, read9, read10, read11, read12, read13, read14]
  exact (fun (A : S1x128.Idx → EReal) => (by blk_ext [places t] : A y = A ((win0_20.blk t).view.emb y))) _
theorem arr21 : (dat0 V c).arrAt 21 cfg0.N = out0_21 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 21 _ (by decide +kernel) fun t hf y => ?_
  blk_simp
  rw [after0_21, read0, read1, read2, read3, read4, read5, read6, read7, read8, read9, read10, read11, read12, read13, read14]
  exact (fun (A : S1x128.Idx → EReal) => (by blk_ext [places t] : A y = A ((win0_21.blk t).view.emb y))) _
theorem arr22 : (dat0 V c).arrAt 22 cfg0.N = out0_22 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 22 _ (by decide +kernel) fun t hf y => ?_
  blk_simp
  rw [after0_22, read0, read1, read2, read3, read4, read5, read6, read7, read8, read9, read10, read11, read12, read13, read14]
  exact (fun (A : S128x128.Idx → EReal) => (by blk_ext [places t] : A y = A ((win0_22.blk t).view.emb y))) _
theorem arr23 : (dat0 V c).arrAt 23 cfg0.N = out0_23 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 23 _ (by decide +kernel) fun t hf y => ?_
  blk_simp
  rw [after0_23, read0, read1, read2, read3, read4, read5, read6, read7, read8, read9, read10, read11, read12, read13, read14]
  exact (fun (A : S1x128.Idx → EReal) => (by blk_ext [places t] : A y = A ((win0_23.blk t).view.emb y))) _
theorem arr24 : (dat0 V c).arrAt 24 cfg0.N = out0_24 (F := Ideal) (V c main_v0) (V c main_arg3) (V c main_arg5) (V c main_v1) (V c main_arg7) (V c main_v2) (V c main_arg13) (V c main_v3) (V c main_v4) (V c main_arg16) (V c main_v5) (V c main_v6) (V c main_arg19) (V c main_v7) (V c main_v8) := by
  refine (dat0 V c).arrAt_eq_of_covers 24 _ (by decide +kernel) fun t hf y => ?_
  blk_simp
  rw [after0_24, read0, read1, read2, read3, read4, read5, read6, read7, read8, read9, read10, read11, read12, read13, read14]
  exact (fun (A : S1x128.Idx → EReal) => (by blk_ext [places t] : A y = A ((win0_24.blk t).view.emb y))) _

end Cert.Value.Prep
end
-- ==== Proof.Value.Entry.lean ====
/- What the host operations between the calls leave in the buffers the calls read, element by element. -/
module

public import proofs.«01_k».proof.Proof.Frame.KernelIdeal.Run
public import proofs.«01_k».proof.Proof.Value.Spec
public import Idealize.ShloMosaic.Lib.Pointwise
public import Idealize.ShloMosaic.Lib.Pipeline.ValueKit

@[expose] public section

noncomputable section

namespace Cert.Value.Entry

open Idealize.ShloMosaic Cert.KernelIdeal Cert.KernelIdeal.Gen Idealize.SL

variable (m : (ℓ : Loc nD τ sig) → Buf (Elt Ideal) ℓ) (ρ : Dev nD → PrngReg) (c : Dev nD)

theorem v0 (j : Fin 640) : V1 m ρ c main_v0 (ix2 0 j) = m ((c.tc : Thread nD τ).loc main_arg2) (ix2 ⟨j.val / 128, by omega⟩ ⟨j.val % 128, by omega⟩) := by
  show StableHlo.after hostOps0 (W0 m ρ c) (Proc.devRef .tc main_v0) (ix2 0 j) = _
  entry_read
  pointwise []
theorem v1 (j : Fin 64) : V1 m ρ c main_v1 (ix2 0 j) = m ((c.tc : Thread nD τ).loc main_arg6) (ix1 j) := by
  show StableHlo.after hostOps0 (W0 m ρ c) (Proc.devRef .tc main_v1) (ix2 0 j) = _
  entry_read
  pointwise []
theorem v2 (j : Fin 64) : V1 m ρ c main_v2 (ix2 0 j) = m ((c.tc : Thread nD τ).loc main_arg8) (ix1 j) := by
  show StableHlo.after hostOps0 (W0 m ρ c) (Proc.devRef .tc main_v2) (ix2 0 j) = _
  entry_read
  pointwise []
theorem v3 (j : Fin 32) : V1 m ρ c main_v3 (ix2 0 j) = m ((c.tc : Thread nD τ).loc main_arg14) (ix1 j) := by
  show StableHlo.after hostOps0 (W0 m ρ c) (Proc.devRef .tc main_v3) (ix2 0 j) = _
  entry_read
  pointwise []
theorem v4 (j : Fin 32) : V1 m ρ c main_v4 (ix2 0 j) = m ((c.tc : Thread nD τ).loc main_arg15) (ix1 j) := by
  show StableHlo.after hostOps0 (W0 m ρ c) (Proc.devRef .tc main_v4) (ix2 0 j) = _
  entry_read
  pointwise []
theorem v5 (j : Fin 128) : V1 m ρ c main_v5 (ix2 0 j) = m ((c.tc : Thread nD τ).loc main_arg17) (ix1 j) := by
  show StableHlo.after hostOps0 (W0 m ρ c) (Proc.devRef .tc main_v5) (ix2 0 j) = _
  entry_read
  pointwise []
theorem v6 (j : Fin 2) : V1 m ρ c main_v6 (ix2 0 j) = m ((c.tc : Thread nD τ).loc main_arg18) (ix1 j) := by
  show StableHlo.after hostOps0 (W0 m ρ c) (Proc.devRef .tc main_v6) (ix2 0 j) = _
  entry_read
  pointwise []
theorem v7 (j : Fin 128) : V1 m ρ c main_v7 (ix2 0 j) = m ((c.tc : Thread nD τ).loc main_arg21) (ix1 j) := by
  show StableHlo.after hostOps0 (W0 m ρ c) (Proc.devRef .tc main_v7) (ix2 0 j) = _
  entry_read
  pointwise []
theorem v8 (j : Fin 128) : V1 m ρ c main_v8 (ix2 0 j) = m ((c.tc : Thread nD τ).loc main_arg22) (ix1 j) := by
  show StableHlo.after hostOps0 (W0 m ρ c) (Proc.devRef .tc main_v8) (ix2 0 j) = _
  entry_read
  pointwise []
theorem v24 (j : Fin 128) : V3 m ρ c main_v24 (ix2 0 j) = m ((c.tc : Thread nD τ).loc main_arg10) (ix1 j) := by
  show StableHlo.after hostOps1 (W2 m ρ c) (Proc.devRef .tc main_v24) (ix2 0 j) = _
  entry_read
  rw [W2_args m ρ c main_arg10 (by decide)]
  pointwise []
theorem v25 (j : Fin 128) : V3 m ρ c main_v25 (ix2 0 j) = m ((c.tc : Thread nD τ).loc main_arg11) (ix1 j) := by
  show StableHlo.after hostOps1 (W2 m ρ c) (Proc.devRef .tc main_v25) (ix2 0 j) = _
  entry_read
  rw [W2_args m ρ c main_arg11 (by decide)]
  pointwise []
theorem v26 (j : Fin 128) : V3 m ρ c main_v26 (ix2 0 j) = m ((c.tc : Thread nD τ).loc main_arg12) (ix1 j) := by
  show StableHlo.after hostOps1 (W2 m ρ c) (Proc.devRef .tc main_v26) (ix2 0 j) = _
  entry_read
  rw [W2_args m ρ c main_arg12 (by decide)]
  pointwise []
/-- The embedding's weights, laid out by patch row, patch column and channel. -/
theorem v11 (t : Fin 2048) (o : Fin 128) : V3 m ρ c main_v11 (ix2 t o)
    = m ((c.tc : Thread nD τ).loc main_arg9) (ix4 o ⟨t.val % 128, by omega⟩ ⟨t.val / 512, by omega⟩ ⟨t.val / 128 % 4, by omega⟩) := by
  show StableHlo.after hostOps1 (W2 m ρ c) (Proc.devRef .tc main_v11) (ix2 t o) = _
  entry_read
  rw [W2_args m ρ c main_arg9 (by decide)]
  pointwise []
/-- The convolution's weights, transposed. -/
theorem v22 (di dj : Fin 3) (k o : Fin 128) : V3 m ρ c main_v22 (ix4 di dj k o) = m ((c.tc : Thread nD τ).loc main_arg20) (ix4 o k di dj) := by
  show StableHlo.after hostOps1 (W2 m ρ c) (Proc.devRef .tc main_v22) (ix4 di dj k o) = _
  entry_read
  rw [W2_args m ρ c main_arg20 (by decide)]
  pointwise []

theorem same : ∀ a b : Fin 16, IntOp.cmpi CmpIPredicate.eq (IntOp.addi (BitVec.ofNat 32 a.val) 0#32) (BitVec.ofNat 32 b.val)
    = if a.val = b.val then 1#1 else 0#1 := by decide

/-- The averaging matrix. -/
theorem v21 (e : Fin 512) (q : Fin 16) : V3 m ρ c main_v21 (ix2 e q) = avg e q := by
  show StableHlo.after hostOps1 (W2 m ρ c) (Proc.devRef .tc main_v21) (ix2 e q) = _
  entry_read
  pointwise []
  rw [same ⟨e.val / 32, by omega⟩ q]
  unfold avg c32
  congr 1
  by_cases h : e.val / 32 = q.val
  · rw [if_pos h, if_pos h]; show (((1#1 : BitVec 1).toNat : ℝ) : EReal) = 1; simp
  · rw [if_neg h, if_neg h]; show (((0#1 : BitVec 1).toNat : ℝ) : EReal) = 0; simp

end Cert.Value.Entry
end
-- ==== Proof.Value.Kernel.lean ====
/- The kernel's result, as one function of the program's arguments: the three calls and the host operations between them
   put together. -/
module

public import proofs.«01_k».proof.Proof.Value.ConvArray
public import proofs.«01_k».proof.Proof.Value.FuseArray
public import proofs.«01_k».proof.Proof.Value.PrepArray
public import proofs.«01_k».proof.Proof.Value.Entry

@[expose] public section

noncomputable section

namespace Cert.Value.Kernel

open Idealize.ShloMosaic Cert.KernelIdeal Cert.KernelIdeal.Gen Idealize.SL

variable (m : (ℓ : Loc nD τ sig) → Buf (Elt Ideal) ℓ) (ρ : Dev nD → PrngReg) (c : Dev nD)

/-- The arguments a device is launched with. -/
def args : Args where
  s := fun b k y x => m ((c.tc : Thread nD τ).loc main_arg0) (ix4 b k y x)
  q := fun b k y x => m ((c.tc : Thread nD τ).loc main_arg1) (ix4 b k y x)
  mi := fun i k => m ((c.tc : Thread nD τ).loc main_arg2) (ix2 i k)
  modw := fun n k => m ((c.tc : Thread nD τ).loc main_arg3) (ix2 n k)
  modb := fun n => m ((c.tc : Thread nD τ).loc main_arg4) (ix1 n)
  c1w := fun o n => m ((c.tc : Thread nD τ).loc main_arg5) (ix2 o n)
  c1b := fun o => m ((c.tc : Thread nD τ).loc main_arg6) (ix1 o)
  c2w := fun o k => m ((c.tc : Thread nD τ).loc main_arg7) (ix2 o k)
  c2b := fun o => m ((c.tc : Thread nD τ).loc main_arg8) (ix1 o)
  pew := fun o k p q => m ((c.tc : Thread nD τ).loc main_arg9) (ix4 o k p q)
  peb := fun o => m ((c.tc : Thread nD τ).loc main_arg10) (ix1 o)
  peg := fun o => m ((c.tc : Thread nD τ).loc main_arg11) (ix1 o)
  pebeta := fun o => m ((c.tc : Thread nD τ).loc main_arg12) (ix1 o)
  expw := fun k e => m ((c.tc : Thread nD τ).loc main_arg13) (ix2 k e)
  fing := fun e => m ((c.tc : Thread nD τ).loc main_arg14) (ix1 e)
  finb := fun e => m ((c.tc : Thread nD τ).loc main_arg15) (ix1 e)
  upw := fun o e => m ((c.tc : Thread nD τ).loc main_arg16) (ix2 o e)
  upb := fun o => m ((c.tc : Thread nD τ).loc main_arg17) (ix1 o)
  w2 := fun l => m ((c.tc : Thread nD τ).loc main_arg18) (ix1 l)
  wpre := fun o k => m ((c.tc : Thread nD τ).loc main_arg19) (ix2 o k)
  wpost := fun o k di dj => m ((c.tc : Thread nD τ).loc main_arg20) (ix4 o k di dj)
  bng := fun o => m ((c.tc : Thread nD τ).loc main_arg21) (ix1 o)
  bnb := fun o => m ((c.tc : Thread nD τ).loc main_arg22) (ix1 o)

section Generic
variable (A : Args)

theorem bsn_of (x3 x5 : Vec Ideal S1x64 .f32) (h3 : ∀ j, x3 (ix2 0 j) = A.c1b j) (h5 : ∀ j, x5 (ix2 0 j) = A.c2b j) (o : Fin 128) :
    (if h : o.val < 64 then x3 (ix2 0 ⟨o.val, h⟩) else x5 (ix2 0 ⟨o.val - 64, by omega⟩)) = A.bsn o := by
  unfold Args.bsn
  simp only [h3, h5]
theorem fwt_of (x : Vec Ideal S1x2 .f32) (h : ∀ l, x (ix2 0 l) = A.w2 l) (k : Fin 2) : Prep.fwt x k = A.fwt k := by
  unfold Prep.fwt Args.fwt eps8
  simp only [h]
theorem wp_of (x7 : Vec Ideal S1x32 .f32) (x9 : Vec Ideal S128x32 .f32) (x : Vec Ideal S1x2 .f32) (h : ∀ l, x (ix2 0 l) = A.w2 l)
    (h7 : ∀ e, x7 (ix2 0 e) = A.fing e) (h9 : ∀ o e, x9 (ix2 o e) = A.upw o e) : Prep.wp x7 x9 x = A.wp := by
  funext e o
  unfold Prep.wp Args.wp
  rw [fwt_of A x h, h7, h9]
theorem gall_of (f : Fin 32 → Fin 128 → EReal) (hf : f = A.wp) (x6 : Vec Ideal S128x512 .f32) (h6 : ∀ k e, x6 (ix2 k e) = A.expw k e)
    (k : Fin 128) (q : Fin 16) (o : Fin 128) :
    ∑ e : Fin 32, x6 (ix2 k ⟨(q.val * 128 + o.val) / 128 * 32 + e.val, by omega⟩) * f e ⟨(q.val * 128 + o.val) % 128, by omega⟩
      = A.gall q o k := by
  subst hf
  unfold Args.gall
  have e1 : (q.val * 128 + o.val) / 128 = q.val := by omega
  have e2 : (q.val * 128 + o.val) % 128 = o.val := by omega
  simp only [e1, e2, h6]
theorem coff_of (g : EReal) (hg : g = A.fwt 1) (x8 : Vec Ideal S1x32 .f32) (x9 : Vec Ideal S128x32 .f32) (x10 : Vec Ideal S1x128 .f32)
    (h8 : ∀ e, x8 (ix2 0 e) = A.finb e) (h9 : ∀ o e, x9 (ix2 o e) = A.upw o e) (h10 : ∀ o, x10 (ix2 0 o) = A.upb o) (o : Fin 128) :
    g * ((∑ e : Fin 32, x8 (ix2 0 e) * x9 (ix2 o e)) + x10 (ix2 0 o))
      = A.fwt 1 * ((∑ e : Fin 32, A.finb e * A.upw o e) + A.upb o) := by
  simp only [hg, h8, h9, h10]

variable (V : (c : Dev nD) → (b : Ref sig .tc) → Buf (Elt Ideal) ((c.tc : Thread nD τ).loc b))

theorem feat_of (h0 : ∀ k n, V c main_v9_0 (ix2 k n) = A.modw n k) (h1 : ∀ n o, V c main_v9_1 (ix2 n o) = A.wtop n o)
    (h2 : ∀ k o, V c main_v9_2 (ix2 k o) = A.wbot k o) (h3 : ∀ o, V c main_v9_3 (ix2 0 o) = A.bsn o)
    (h4 : ∀ t o, V c main_v11 (ix2 t o) = A.pew o ⟨t.val % 128, by omega⟩ ⟨t.val / 512, by omega⟩ ⟨t.val / 128 % 4, by omega⟩)
    (h5 : ∀ o, V c main_v24 (ix2 0 o) = A.peb o) (h6 : ∀ o, V c main_v25 (ix2 0 o) = A.peg o) (h7 : ∀ o, V c main_v26 (ix2 0 o) = A.pebeta o)
    (h8 : ∀ b k y x, V c main_arg0 (ix4 b k y x) = A.s b k y x) (b : Fin 4) (i j : Fin 32) :
    Fuse.featA V c b i j = A.featK b i j := by
  unfold Fuse.featA Fuse.embA Args.featK
  simp only [h0, h1, h2, h3, h4, h5, h6, h7, h8]

theorem fuse_of (hf : ∀ b i j, Fuse.featA V c b i j = A.featK b i j)
    (h1 : ∀ b k y x, V c main_arg1 (ix4 b k y x) = A.q b k y x) (h2 : ∀ k o, V c main_v9_7 (ix2 k o) = A.fwt 0 * A.wpre o k)
    (h3 : ∀ k e, V c main_arg13 (ix2 k e) = A.expw k e) (h4 : ∀ e q, V c main_v21 (ix2 e q) = avg e q)
    (h5 : ∀ k (q : Fin 16) (o : Fin 128), V c main_v9_4 (ix2 k ⟨q.val * 128 + o.val, by omega⟩) = A.gall q o k)
    (h6 : ∀ o, V c main_v9_5 (ix2 0 o) = ∑ e : Fin 32, A.wp e o)
    (h7 : ∀ o, V c main_v9_6 (ix2 0 o) = A.fwt 1 * ((∑ e : Fin 32, A.finb e * A.upw o e) + A.upb o)) (b : Fin 4) (y x o : Fin 128) :
    Fuse.res V c b y x o = A.fuseK b y x o := by
  unfold Fuse.res Args.fuseK
  have hg : ∀ k, V c main_v9_4 (ix2 k ⟨(y.val % 4 * 4 + x.val % 4) * 128 + o.val, by omega⟩)
      = A.gall ⟨y.val % 4 * 4 + x.val % 4, by omega⟩ o k := fun k => h5 k ⟨y.val % 4 * 4 + x.val % 4, by omega⟩ o
  simp only [hf, h1, h2, h3, h4, hg, h6, h7]

theorem conv_of (h1 : ∀ b y x k, V c main_v27 (ix4 b y x k) = A.fuseK b y x k) (h2 : ∀ di dj k o, V c main_v22 (ix4 di dj k o) = A.wpost o k di dj)
    (h3 : ∀ o, V c (Pipeline.arrRef spec2 4) (ix2 0 o) = A.bng o * Ideal.div 1 (Ideal.sqrt bnc))
    (h4 : ∀ o, V c (Pipeline.arrRef spec2 5) (ix2 0 o) = A.bnb o) (b : Fin 4) (o y x : Fin 128) :
    Conv.res V c b o y x = A.outK b o y x := by
  unfold Conv.res Args.outK
  have hi : Conv.img V c = A.fuseK := by
    funext b y x k; exact h1 b y x k
  rw [hi, h3, h4]
  simp only [h2]

end Generic

theorem at_entry (a : Ref sig .tc) (h : a ∈ argRefs) : V1 m ρ c a = m ((c.tc : Thread nD τ).loc a) := W1_args m ρ c a h

theorem modwT (k : Fin 128) (n : Fin 640) : V3 m ρ c main_v9_0 (ix2 k n) = (args m c).modw n k := by
  refine (congrFun ((W3_of m ρ c main_v9_0 (by decide)).trans ((W2_arr m ρ c 15).trans (Prep.arr15 (V1 m ρ) c))) _).trans ?_
  rw [Prep.modwT_apply, at_entry m ρ c main_arg3 (by decide)]
  rfl
theorem wtop (n : Fin 640) (o : Fin 128) : V3 m ρ c main_v9_1 (ix2 n o) = (args m c).wtop n o := by
  refine (congrFun ((W3_of m ρ c main_v9_1 (by decide)).trans ((W2_arr m ρ c 16).trans (Prep.arr16 (V1 m ρ) c))) _).trans ?_
  rw [Prep.wtop_apply, at_entry m ρ c main_arg5 (by decide), Entry.v0]
  rfl
theorem wbot (k o : Fin 128) : V3 m ρ c main_v9_2 (ix2 k o) = (args m c).wbot k o := by
  refine (congrFun ((W3_of m ρ c main_v9_2 (by decide)).trans ((W2_arr m ρ c 17).trans (Prep.arr17 (V1 m ρ) c))) _).trans ?_
  rw [Prep.wbot_apply, at_entry m ρ c main_arg7 (by decide)]
  rfl
theorem bsn (o : Fin 128) : V3 m ρ c main_v9_3 (ix2 0 o) = (args m c).bsn o := by
  refine (congrFun ((W3_of m ρ c main_v9_3 (by decide)).trans ((W2_arr m ρ c 18).trans (Prep.arr18 (V1 m ρ) c))) _).trans ?_
  rw [Prep.bsn_apply]
  exact bsn_of (args m c) _ _ (Entry.v1 m ρ c) (Entry.v2 m ρ c) o
theorem fwt (k : Fin 2) : Prep.fwt (V1 m ρ c main_v6) k = (args m c).fwt k := fwt_of (args m c) _ (Entry.v6 m ρ c) k
theorem wp : Prep.wp (V1 m ρ c main_v3) (V1 m ρ c main_arg16) (V1 m ρ c main_v6) = (args m c).wp :=
  wp_of (args m c) _ _ _ (Entry.v6 m ρ c) (Entry.v3 m ρ c) fun _ _ => congrFun (at_entry m ρ c main_arg16 (by decide)) _
theorem gall (k : Fin 128) (q : Fin 16) (o : Fin 128) :
    V3 m ρ c main_v9_4 (ix2 k ⟨q.val * 128 + o.val, by omega⟩) = (args m c).gall q o k := by
  refine (congrFun ((W3_of m ρ c main_v9_4 (by decide)).trans ((W2_arr m ρ c 19).trans (Prep.arr19 (V1 m ρ) c))) _).trans ?_
  rw [Prep.gall_apply]
  exact gall_of (args m c) _ (wp m ρ c) _ (fun _ _ => congrFun (at_entry m ρ c main_arg13 (by decide)) _) k q o
theorem kvec (o : Fin 128) : V3 m ρ c main_v9_5 (ix2 0 o) = ∑ e : Fin 32, (args m c).wp e o := by
  refine (congrFun ((W3_of m ρ c main_v9_5 (by decide)).trans ((W2_arr m ρ c 20).trans (Prep.arr20 (V1 m ρ) c))) _).trans ?_
  rw [Prep.kvec_apply, wp]
theorem coff (o : Fin 128) : V3 m ρ c main_v9_6 (ix2 0 o)
    = (args m c).fwt 1 * ((∑ e : Fin 32, (args m c).finb e * (args m c).upw o e) + (args m c).upb o) := by
  refine (congrFun ((W3_of m ρ c main_v9_6 (by decide)).trans ((W2_arr m ρ c 21).trans (Prep.arr21 (V1 m ρ) c))) _).trans ?_
  rw [Prep.coff_apply]
  exact coff_of (args m c) _ (fwt m ρ c 1) _ _ _ (Entry.v4 m ρ c) (fun _ _ => congrFun (at_entry m ρ c main_arg16 (by decide)) _) (Entry.v5 m ρ c) o
theorem wpre (k o : Fin 128) : V3 m ρ c main_v9_7 (ix2 k o) = (args m c).fwt 0 * (args m c).wpre o k := by
  refine (congrFun ((W3_of m ρ c main_v9_7 (by decide)).trans ((W2_arr m ρ c 22).trans (Prep.arr22 (V1 m ρ) c))) _).trans ?_
  rw [Prep.wpre_apply, fwt, at_entry m ρ c main_arg19 (by decide)]
  rfl
theorem bns (o : Fin 128) : V4 m ρ c main_v9_8 (ix2 0 o) = (args m c).bng o * Ideal.div 1 (Ideal.sqrt bnc) := by
  refine (congrFun ((W4_of m ρ c main_v9_8 (by decide)).trans ((W3_of m ρ c main_v9_8 (by decide)).trans
    ((W2_arr m ρ c 23).trans (Prep.arr23 (V1 m ρ) c)))) _).trans ?_
  rw [Prep.bns_apply, Entry.v7]
  rfl
theorem bnb (o : Fin 128) : V4 m ρ c main_v9_9 (ix2 0 o) = (args m c).bnb o := by
  refine (congrFun ((W4_of m ρ c main_v9_9 (by decide)).trans ((W3_of m ρ c main_v9_9 (by decide)).trans
    ((W2_arr m ρ c 24).trans (Prep.arr24 (V1 m ρ) c)))) _).trans ?_
  rw [Prep.bnb_apply, Entry.v8]
  rfl

theorem arg (a : Ref sig .tc) (h : a ∈ argRefs) : V3 m ρ c a = m ((c.tc : Thread nD τ).loc a) := W3_args m ρ c a h

/-- The patch features the fuse call computes are the kernel's. -/
theorem feat (b : Fin 4) (i j : Fin 32) : Fuse.featA (V3 m ρ) c b i j = (args m c).featK b i j :=
  feat_of c (args m c) (V3 m ρ) (modwT m ρ c) (wtop m ρ c) (wbot m ρ c) (bsn m ρ c) (Entry.v11 m ρ c) (Entry.v24 m ρ c)
    (Entry.v25 m ρ c) (Entry.v26 m ρ c) (fun _ _ _ _ => congrFun (arg m ρ c main_arg0 (by decide)) _) b i j

/-- The fuse call's result. -/
theorem fuse (b : Fin 4) (y x o : Fin 128) : V4 m ρ c main_v27 (ix4 b y x o) = (args m c).fuseK b y x o :=
  (congrFun ((W4_arr m ρ c 17).trans (Fuse.arr (V3 m ρ) c)) (ix4 b y x o)).trans
    (fuse_of c (args m c) (V3 m ρ) (feat m ρ c) (fun _ _ _ _ => congrFun (arg m ρ c main_arg1 (by decide)) _) (wpre m ρ c)
      (fun _ _ => congrFun (arg m ρ c main_arg13 (by decide)) _) (Entry.v21 m ρ c) (gall m ρ c) (kvec m ρ c) (coff m ρ c) b y x o)

/-- The kernel's result. -/
theorem value (b : Fin 4) (o y x : Fin 128) : W5 m ρ c (Proc.devRef .tc main_v28) (ix4 b o y x) = (args m c).outK b o y x :=
  (congrFun ((W5_arr m ρ c 6).trans (Conv.arr (V4 m ρ) c)) (ix4 b o y x)).trans
    (conv_of c (args m c) (V4 m ρ) (fuse m ρ c) (fun di dj k o => (congrFun (W4_of m ρ c main_v22 (by decide)) _).trans (Entry.v22 m ρ c di dj k o))
      (bns m ρ c) (bnb m ρ c) b o y x)

end Cert.Value.Kernel
end
-- ==== Proof.Value.Consts.lean ====
/- The numbers the programs write as bit patterns. -/
module

public import proofs.«01_k».proof.Proof.Value.Spec

@[expose] public section

noncomputable section

namespace Cert.Value

open Idealize.ShloMosaic

/-- The pattern of zero is zero. -/
theorem zero_bits : Ideal.ofBits .f32 0#32 = 0 := by simp [Ideal.ofBits, Ideal.ieee]

/-- The pattern of one is one. -/
theorem one_bits : Ideal.ofBits .f32 1065353216#32 = 1 := by
  simp [Ideal.ofBits, Ideal.ieee, -EReal.coe_mul]; norm_num

/-- The pattern of infinity is infinity. -/
theorem inf_bits : Ideal.ofBits .f32 2139095040#32 = ⊤ := by simp [Ideal.ofBits, Ideal.ieee]

/-- The number of channels. -/
theorem c128_eq : c128 = ((128 : ℝ) : EReal) := by
  simp [c128, Ideal.ofBits, Ideal.ieee, -EReal.coe_mul]; norm_num

/-- The width of one position's features. -/
theorem c32_eq : c32 = ((32 : ℝ) : EReal) := by
  simp [c32, Ideal.ofBits, Ideal.ieee, -EReal.coe_mul]; norm_num

/-- The constant added to a variance is a positive number. -/
theorem eps5_real : ∃ r : ℝ, 0 < r ∧ eps5 = (r : EReal) := by
  refine ⟨_, ?_, by simp [eps5, Ideal.ofBits, Ideal.ieee, -EReal.coe_mul]; rfl⟩
  norm_num

/-- The constant under the fusion weights is a positive number. -/
theorem eps8_real : ∃ r : ℝ, 0 < r ∧ eps8 = (r : EReal) := by
  refine ⟨_, ?_, by simp [eps8, Ideal.ofBits, Ideal.ieee, -EReal.coe_mul]; rfl⟩
  norm_num

/-- The batch normalisation's variance is a positive number. -/
theorem bnc_real : ∃ r : ℝ, 0 < r ∧ bnc = (r : EReal) := by
  refine ⟨_, ?_, by simp [bnc, Ideal.ofBits, Ideal.ieee, -EReal.coe_mul]; rfl⟩
  norm_num

end Cert.Value
end
-- ==== Proof.Value.Extended.lean ====
/- Sums, products and quotients of extended real numbers. -/
module

public import proofs.«01_k».proof.Proof.Value.Consts

@[expose] public section

noncomputable section

namespace Cert.Value

open Idealize.ShloMosaic

/-- The extended number of a sum of reals. -/
theorem coe_sum {ι : Type} [Fintype ι] (f : ι → ℝ) : ((∑ k, f k : ℝ) : EReal) = ∑ k, (f k : EReal) := by
  classical
  have h (s : Finset ι) : ((∑ k ∈ s, f k : ℝ) : EReal) = ∑ k ∈ s, (f k : EReal) := by
    induction s using Finset.induction_on with
    | empty => simp
    | insert a s ha ih => rw [Finset.sum_insert ha, Finset.sum_insert ha, EReal.coe_add, ih]
  exact h _

/-- A real factor goes over a sum with one real term. -/
theorem coe_mul_add (u a : ℝ) (b : EReal) : (u : EReal) * ((a : EReal) + b) = (u : EReal) * a + (u : EReal) * b := by
  induction b using EReal.rec with
  | coe b => norm_cast; exact mul_add u a b
  | bot =>
    rw [EReal.add_bot]
    rcases lt_trichotomy u 0 with h | h | h
    · rw [EReal.coe_mul_bot_of_neg h, ← EReal.coe_mul, EReal.coe_add_top]
    · subst h; simp
    · rw [EReal.coe_mul_bot_of_pos h, EReal.add_bot]
  | top =>
    rw [EReal.coe_add_top]
    rcases lt_trichotomy u 0 with h | h | h
    · rw [EReal.coe_mul_top_of_neg h, EReal.add_bot]
    · subst h; simp
    · rw [EReal.coe_mul_top_of_pos h, ← EReal.coe_mul, EReal.coe_add_top]

/-- A nonnegative real factor goes over a sum. -/
theorem mul_sum_of_nonneg {ι : Type} [Fintype ι] (u : ℝ) (hu : 0 ≤ u) (f : ι → EReal) : (u : EReal) * ∑ k, f k = ∑ k, (u : EReal) * f k := by
  classical
  have h (s : Finset ι) : (u : EReal) * ∑ k ∈ s, f k = ∑ k ∈ s, (u : EReal) * f k := by
    induction s using Finset.induction_on with
    | empty => simp
    | insert a s ha ih =>
      rw [Finset.sum_insert ha, Finset.sum_insert ha,
        EReal.left_distrib_of_nonneg_of_ne_top (by exact_mod_cast hu) (EReal.coe_ne_top u), ih]
  exact h _

/-- A square is nonnegative. -/
theorem sq_nonneg (x : EReal) : 0 ≤ x * x := by
  induction x using EReal.rec with
  | coe r => rw [← EReal.coe_mul]; exact_mod_cast mul_self_nonneg r
  | bot => simp
  | top => simp

/-- A quotient by the root of a positive number is a product with its reciprocal root. -/
theorem div_sqrt (x w : EReal) (hw : 0 < w) : Ideal.div x (Ideal.sqrt w) = x * Ideal.rsqrt w := by
  induction w using EReal.rec with
  | coe r =>
    have hr : 0 < r := by exact_mod_cast hw
    rw [Ideal.sqrt_coe, Ideal.rsqrt_coe, if_neg hr.not_gt, if_neg hr.not_gt, if_neg hr.ne', Ideal.div_coe (Real.sqrt_pos.mpr hr).ne', one_div]
  | bot => exact absurd hw (by simp)
  | top =>
    rw [Ideal.sqrt_top, Ideal.rsqrt_top, Ideal.div, if_neg (by simp), EReal.inv_top]

/-- Quotients of nonnegative numbers by positive reals are nonnegative. -/
theorem div_nonneg_real (x : EReal) (hx : 0 ≤ x) (c : ℝ) (hc : 0 < c) : 0 ≤ Ideal.div x (c : EReal) := by
  rw [Ideal.div_coe hc.ne']
  exact mul_nonneg hx (by exact_mod_cast (one_div_pos.mpr hc).le)

end Cert.Value
end
-- ==== Proof.Value.SpecRef.lean ====
/- The reference's way of writing the function both programs compute. -/
module

public import proofs.«01_k».proof.Proof.Value.Spec

@[expose] public section

noncomputable section

namespace Cert.Value

open Idealize.ShloMosaic

/-- The mean of a family. -/
def meanR {n : ℕ} (c : EReal) (h : Fin n → EReal) : EReal := Ideal.div (∑ k, h k) c

/-- The variance of a family. -/
def varR {n : ℕ} (c : EReal) (h : Fin n → EReal) : EReal := Ideal.div (∑ k, (h k - meanR c h) * (h k - meanR c h)) c

/-- A layer normalisation, as the reference writes it. -/
def normR {n : ℕ} (c : EReal) (h g b : Fin n → EReal) (o : Fin n) : EReal :=
  Ideal.div (h o - meanR c h) (Ideal.sqrt (varR c h + eps5)) * g o + b o

namespace Args
variable (A : Args)

/-- One gate of the front. -/
def gateR (X : Fin 128 → EReal) (n : Fin 640) : EReal := Ideal.logistic ((∑ l, unit X l * A.modw n l) + A.modb n)

/-- The reference's front: the gated memory half and the bypass half. -/
def frontR (X : Fin 128 → EReal) (o : Fin 128) : EReal :=
  if h : o.val < 64 then
    (∑ k : Fin 128, ∑ i : Fin 5, A.c1w ⟨o.val, h⟩ ⟨i.val * 128 + k.val, by omega⟩ * (A.mi i k * A.gateR X ⟨i.val * 128 + k.val, by omega⟩))
      + A.c1b ⟨o.val, h⟩
  else (∑ k : Fin 128, A.c2w ⟨o.val - 64, by omega⟩ k * unit X k) + A.c2b ⟨o.val - 64, by omega⟩

/-- The reference's embedded patch. -/
def embR (b : Fin 4) (i j : Fin 32) (o : Fin 128) : EReal :=
  (∑ k : Fin 128, ∑ p : Fin 4, ∑ q : Fin 4,
    A.frontR (fun c => A.s b c ⟨i.val * 4 + p.val, by omega⟩ ⟨j.val * 4 + q.val, by omega⟩) k * A.pew o k p q) + A.peb o

/-- The reference's patch features. -/
def featR (b : Fin 4) (i j : Fin 32) : Fin 128 → EReal := normR c128 (A.embR b i j) A.peg A.pebeta

/-- The reference's expanded features at one pixel. -/
def expR (b : Fin 4) (y x : Fin 128) (e : Fin 32) : EReal :=
  ∑ k : Fin 128, A.featR b ⟨y.val / 4, by omega⟩ ⟨x.val / 4, by omega⟩ k
    * A.expw k ⟨y.val % 4 * 128 + x.val % 4 * 32 + e.val, by omega⟩

/-- The reference's fused image before the convolution. -/
def fuseR (b : Fin 4) (y x o : Fin 128) : EReal :=
  A.fwt 0 * (∑ k, A.wpre o k * A.q b k y x)
    + A.fwt 1 * ((∑ e, A.upw o e * normR c32 (A.expR b y x) A.fing A.finb e) + A.upb o)

/-- The reference's result. -/
def outR (b : Fin 4) (o y x : Fin 128) : EReal :=
  min six (max 0 (conv A.fuseR (fun di dj k o => A.wpost o k di dj) b o y x * Ideal.div (A.bng o) (Ideal.sqrt bnc) + A.bnb o))

end Args

end Cert.Value
end
-- ==== Proof.Value.Norm.lean ====
/- The layer normalisations: the two programs' forms agree, and with real scale and shift the outcome is real. -/
module

public import proofs.«01_k».proof.Proof.Value.Extended
public import proofs.«01_k».proof.Proof.Value.SpecRef

@[expose] public section

noncomputable section

namespace Cert.Value

open Idealize.ShloMosaic

/-- A variance is nonnegative. -/
theorem varR_nonneg {n : ℕ} (c : ℝ) (hc : 0 < c) (h : Fin n → EReal) : 0 ≤ varR (c : EReal) h :=
  div_nonneg_real _ (Finset.sum_nonneg fun _ _ => sq_nonneg _) c hc

/-- A variance with the small constant added is positive. -/
theorem varR_eps_pos {n : ℕ} (c : ℝ) (hc : 0 < c) (h : Fin n → EReal) : 0 < varR (c : EReal) h + eps5 := by
  obtain ⟨r, hr, he⟩ := eps5_real
  have h5 : 0 < eps5 := by rw [he]; exact_mod_cast hr
  exact h5.trans_le (le_add_of_nonneg_left (varR_nonneg c hc h))

/-- The kernel's normalisation is the reference's. -/
theorem normK_eq (h g b : Fin 128 → EReal) : normK h g b = normR c128 h g b := by
  funext o
  have e : Ideal.div (h o - meanR c128 h) (Ideal.sqrt (varR c128 h + eps5)) = (h o - meanR c128 h) * Ideal.rsqrt (varR c128 h + eps5) := by
    rw [c128_eq]
    exact div_sqrt _ _ (varR_eps_pos 128 (by norm_num) h)
  show _ = Ideal.div (h o - meanR c128 h) (Ideal.sqrt (varR c128 h + eps5)) * g o + b o
  rw [e]
  rfl

/-- A sum of extended numbers not all real is infinite. -/
theorem sum_infinite {n : ℕ} (h : Fin n → EReal) (hn : ¬ ∀ k, ∃ r : ℝ, h k = (r : EReal)) : (∑ k, h k) = ⊤ ∨ (∑ k, h k) = ⊥ := by
  by_contra hc
  obtain ⟨h1, h2⟩ := not_or.mp hc
  refine hn fun k => ?_
  rw [← Finset.add_sum_erase _ _ (Finset.mem_univ k)] at h1 h2
  generalize (∑ x ∈ Finset.univ.erase k, h x) = s at h1 h2
  generalize h k = x at h1 h2
  induction x using EReal.rec with
  | coe r => exact ⟨r, rfl⟩
  | bot => exact absurd (EReal.bot_add s) h2
  | top =>
    induction s using EReal.rec with
    | coe s => exact absurd (EReal.top_add_coe s) h1
    | bot => exact absurd (EReal.add_bot _) h2
    | top => exact absurd (by simp) h1

/-- A difference from an infinite number has an infinite square. -/
theorem sq_sub_infinite (x m : EReal) (hm : m = ⊤ ∨ m = ⊥) : (x - m) * (x - m) = ⊤ := by
  rcases hm with rfl | rfl <;> induction x using EReal.rec <;> simp [sub_eq_add_neg]

/-- The mean and the variance of real numbers, and the normalised numbers, are real. -/
theorem normR_coe {n : ℕ} (c : ℝ) (hc : 0 < c) (h : Fin n → ℝ) (g b : Fin n → EReal) (o : Fin n) :
    ∃ s : ℝ, s = (Real.sqrt ((∑ k, (h k - (∑ k, h k) * (1 / c)) * (h k - (∑ k, h k) * (1 / c))) * (1 / c) + (eps5).toReal))⁻¹ ∧
      meanR (c : EReal) (fun k => (h k : EReal)) = (((∑ k, h k) * (1 / c) : ℝ) : EReal) ∧
      Ideal.rsqrt (varR (c : EReal) (fun k => (h k : EReal)) + eps5) = (s : EReal) ∧
      normR (c : EReal) (fun k => (h k : EReal)) g b o = (((h o - (∑ k, h k) * (1 / c)) * s : ℝ) : EReal) * g o + b o := by
  have hm : meanR (c : EReal) (fun k => (h k : EReal)) = (((∑ k, h k) * (1 / c) : ℝ) : EReal) := by
    rw [meanR, Ideal.div_coe hc.ne', ← coe_sum, ← EReal.coe_mul]
  have hv : varR (c : EReal) (fun k => (h k : EReal))
      = (((∑ k, (h k - (∑ k, h k) * (1 / c)) * (h k - (∑ k, h k) * (1 / c))) * (1 / c) : ℝ) : EReal) := by
    rw [varR, hm, Ideal.div_coe hc.ne']
    simp only [← EReal.coe_sub, ← EReal.coe_mul, ← coe_sum]
  obtain ⟨r, hr, he⟩ := eps5_real
  have hp : 0 < (∑ k, (h k - (∑ k, h k) * (1 / c)) * (h k - (∑ k, h k) * (1 / c))) * (1 / c) + r :=
    add_pos_of_nonneg_of_pos (mul_nonneg (Finset.sum_nonneg fun _ _ => mul_self_nonneg _) (one_div_pos.mpr hc).le) hr
  have hs : Ideal.rsqrt (varR (c : EReal) (fun k => (h k : EReal)) + eps5)
      = (((Real.sqrt ((∑ k, (h k - (∑ k, h k) * (1 / c)) * (h k - (∑ k, h k) * (1 / c))) * (1 / c) + (eps5).toReal))⁻¹ : ℝ) : EReal) := by
    rw [hv, he, ← EReal.coe_add, EReal.toReal_coe, Ideal.rsqrt_coe, if_neg hp.not_gt, if_neg hp.ne']
  refine ⟨_, rfl, hm, hs, ?_⟩
  rw [normR, div_sqrt _ _ (varR_eps_pos c hc _), hs, hm]
  simp only [← EReal.coe_sub, ← EReal.coe_mul]

/-- With real scale and shift the normalised numbers are real, whatever the numbers were. -/
theorem normR_real {n : ℕ} (c : ℝ) (hc : 0 < c) (h g b : Fin n → EReal) (hg : ∀ k, ∃ r : ℝ, g k = (r : EReal))
    (hb : ∀ k, ∃ r : ℝ, b k = (r : EReal)) (o : Fin n) : ∃ r : ℝ, normR (c : EReal) h g b o = (r : EReal) := by
  obtain ⟨go, hgo⟩ := hg o
  obtain ⟨bo, hbo⟩ := hb o
  by_cases hr : ∀ k, ∃ r : ℝ, h k = (r : EReal)
  · choose f hf using hr
    obtain rfl : h = fun k => (f k : EReal) := funext hf
    obtain ⟨s, -, -, -, hn⟩ := normR_coe c hc f g b o
    rw [hn, hgo, hbo]
    exact ⟨_, by rw [← EReal.coe_mul, ← EReal.coe_add]⟩
  · have hm : meanR (c : EReal) h = ⊤ ∨ meanR (c : EReal) h = ⊥ := by
      rw [meanR, Ideal.div_coe hc.ne']
      rcases sum_infinite h hr with e | e
      · left; rw [e, EReal.top_mul_coe_of_pos (one_div_pos.mpr hc)]
      · right; rw [e, EReal.bot_mul_coe_of_pos (one_div_pos.mpr hc)]
    have hv : varR (c : EReal) h = ⊤ := by
      rw [varR, Ideal.div_coe hc.ne', Finset.sum_congr rfl fun k _ => sq_sub_infinite (h k) _ hm]
      have ht : (∑ _k : Fin n, (⊤ : EReal)) = ⊤ := by
        rw [← Finset.add_sum_erase _ _ (Finset.mem_univ o)]
        exact EReal.top_add_of_ne_bot ((Finset.sum_nonneg fun _ _ => le_top).trans_lt' (by simp)).ne'
      rw [ht, EReal.top_mul_coe_of_pos (one_div_pos.mpr hc)]
    refine ⟨bo, ?_⟩
    obtain ⟨r, hr, he⟩ := eps5_real
    rw [normR, div_sqrt _ _ (varR_eps_pos c hc _), hv, he, EReal.top_add_coe, Ideal.rsqrt_top, mul_zero, zero_mul, zero_add, hbo]

end Cert.Value
end
-- ==== Proof.Value.Up.lean ====
/- The expansion, the last normalisation and the up-projection: the kernel's folded form is the reference's. -/
module

public import proofs.«01_k».proof.Proof.Value.Norm

@[expose] public section

noncomputable section

namespace Cert.Value

open Idealize.ShloMosaic

/-- The averaging matrix is real. -/
theorem avg_coe (x : Fin 512) (q : Fin 16) : avg x q = ((if x.val / 32 = q.val then 1 / 32 else 0 : ℝ) : EReal) := by
  rw [avg, c32_eq, Ideal.div_coe (by norm_num)]
  split
  · rw [one_mul]
  · rw [zero_mul, EReal.coe_zero]

/-- A product with the averaging matrix is a mean over the position's features. -/
theorem sum_avg (G : Fin 512 → ℝ) (q : Fin 16) :
    ∑ x, (G x : EReal) * avg x q = (((∑ e : Fin 32, G ⟨q.val * 32 + e.val, by omega⟩) * (1 / 32) : ℝ) : EReal) := by
  simp only [avg_coe, ← EReal.coe_mul, ← coe_sum]
  refine congrArg _ ?_
  rw [← Equiv.sum_comp (finProdFinEquiv : Fin 16 × Fin 32 ≃ Fin 512), Fintype.sum_prod_type, Finset.sum_mul]
  rw [Finset.sum_eq_single q]
  · refine Finset.sum_congr rfl fun e _ => ?_
    have h : ((finProdFinEquiv : Fin 16 × Fin 32 ≃ Fin 512) (q, e)).val = q.val * 32 + e.val := by
      show e.val + 32 * q.val = _
      omega
    rw [if_pos (by omega)]
    exact congrArg (fun x => G x * (1 / 32)) (Fin.ext h)
  · intro p _ hp
    refine Finset.sum_eq_zero fun e _ => ?_
    have h : ((finProdFinEquiv : Fin 16 × Fin 32 ≃ Fin 512) (p, e)).val = e.val + 32 * p.val := rfl
    have hp' : p.val ≠ q.val := fun h => hp (Fin.ext h)
    rw [if_neg (by omega), mul_zero]
  · exact fun h => absurd (Finset.mem_univ q) h

/-- The mean square less the squared mean is the mean squared deviation. -/
theorem var_real (h : Fin 32 → ℝ) : (∑ e, h e * h e) * (1 / 32) - (∑ e, h e) * (1 / 32) * ((∑ e, h e) * (1 / 32))
    = (∑ e, (h e - (∑ e, h e) * (1 / 32)) * (h e - (∑ e, h e) * (1 / 32))) * (1 / 32) := by
  generalize hm : (∑ e, h e) * (1 / 32) = m
  have hs : ∑ e, h e = 32 * m := by rw [← hm]; ring
  have e1 : ∑ e, (h e - m) * (h e - m) = ∑ e, h e * h e - 2 * m * ∑ e, h e + 32 * (m * m) := by
    rw [Finset.mul_sum, ← Finset.sum_sub_distrib]
    have e2 : (32 : ℝ) * (m * m) = ∑ _e : Fin 32, m * m := by simp
    rw [e2, ← Finset.sum_add_distrib]
    exact Finset.sum_congr rfl fun e _ => by ring
  rw [e1, hs]
  ring

/-- The folded up-projection, over the reals. -/
theorem fold_real (f : Fin 128 → ℝ) (W : Fin 128 → Fin 32 → ℝ) (g p : Fin 32 → ℝ) (u s m : ℝ) :
    (∑ k, f k * ∑ e, W k e * (u * (g e * p e)) - m * ∑ e, u * (g e * p e)) * s
      = u * ∑ e, p e * ((∑ k, f k * W k e - m) * s * g e) := by
  have h1 : ∑ k, f k * ∑ e, W k e * (u * (g e * p e)) = ∑ e, (∑ k, f k * W k e) * (u * (g e * p e)) := by
    simp only [Finset.mul_sum, Finset.sum_mul]
    rw [Finset.sum_comm]
    exact Finset.sum_congr rfl fun e _ => Finset.sum_congr rfl fun k _ => by ring
  rw [h1, Finset.mul_sum, ← Finset.sum_sub_distrib, Finset.sum_mul, Finset.mul_sum]
  exact Finset.sum_congr rfl fun e _ => by ring

/-- The kernel's fused expansion, normalisation and up-projection is the reference's, for real features, weights, scales
    and fusion weight; the last shift and the up-projection's bias may be any extended numbers. -/
theorem up_agree (f : Fin 128 → ℝ) (W : Fin 128 → Fin 512 → ℝ) (g p : Fin 32 → ℝ) (u : ℝ) (fb : Fin 32 → EReal) (ub : EReal) (q : Fin 16) :
    upK (fun k => (f k : EReal)) (fun k x => (W k x : EReal)) avg
        (dot (fun k => (f k : EReal)) fun k => ∑ e : Fin 32, (W k ⟨q.val * 32 + e.val, by omega⟩ : EReal) * ((u : EReal) * ((g e : EReal) * (p e : EReal))))
        (∑ e : Fin 32, (u : EReal) * ((g e : EReal) * (p e : EReal)))
        ((u : EReal) * ((∑ e : Fin 32, fb e * (p e : EReal)) + ub)) q
      = (u : EReal) * ((∑ e, (p e : EReal)
          * normR c32 (fun e : Fin 32 => ∑ k, (f k : EReal) * (W k ⟨q.val * 32 + e.val, by omega⟩ : EReal)) (fun e => (g e : EReal)) fb e) + ub) := by
  have hH (x : Fin 512) : ∑ k, (f k : EReal) * (W k x : EReal) = ((∑ k, f k * W k x : ℝ) : EReal) := by
    rw [coe_sum]; exact Finset.sum_congr rfl fun k _ => (EReal.coe_mul _ _).symm
  obtain ⟨s, hs, hm, hr, -⟩ := normR_coe 32 (by norm_num) (fun e : Fin 32 => ∑ k, f k * W k ⟨q.val * 32 + e.val, by omega⟩) (fun e => (g e : EReal)) fb 0
  have hn (e : Fin 32) := normR_coe 32 (by norm_num) (fun e : Fin 32 => ∑ k, f k * W k ⟨q.val * 32 + e.val, by omega⟩) (fun e => (g e : EReal)) fb e
  have hN (e : Fin 32) : normR ((32 : ℝ) : EReal) (fun e : Fin 32 => ((∑ k, f k * W k ⟨q.val * 32 + e.val, by omega⟩ : ℝ) : EReal)) (fun e => (g e : EReal)) fb e
      = ((((∑ k, f k * W k ⟨q.val * 32 + e.val, by omega⟩) - (∑ e : Fin 32, ∑ k, f k * W k ⟨q.val * 32 + e.val, by omega⟩) * (1 / 32)) * s * g e : ℝ) : EReal) + fb e := by
    obtain ⟨s', hs', -, -, h⟩ := hn e
    rw [h, EReal.coe_mul _ (g e), hs', hs]
  obtain ⟨r, hr0, he⟩ := eps5_real
  have hv : varR ((32 : ℝ) : EReal) (fun e : Fin 32 => ((∑ k, f k * W k ⟨q.val * 32 + e.val, by omega⟩ : ℝ) : EReal))
      = (((∑ e : Fin 32, (∑ k, f k * W k ⟨q.val * 32 + e.val, by omega⟩) * ∑ k, f k * W k ⟨q.val * 32 + e.val, by omega⟩) * (1 / 32)
        - (∑ e : Fin 32, ∑ k, f k * W k ⟨q.val * 32 + e.val, by omega⟩) * (1 / 32)
          * ((∑ e : Fin 32, ∑ k, f k * W k ⟨q.val * 32 + e.val, by omega⟩) * (1 / 32)) : ℝ) : EReal) := by
    rw [varR, hm, Ideal.div_coe (by norm_num), var_real]
    simp only [← EReal.coe_sub, ← EReal.coe_mul, ← coe_sum]
  unfold upK dot
  simp only [hH, c32_eq, hN, ← EReal.coe_mul, sum_avg, ← coe_sum]
  rw [← EReal.coe_sub, ← EReal.coe_sub, ← hv, hr, ← EReal.coe_mul]
  rw [fold_real f (fun k e => W k ⟨q.val * 32 + e.val, by omega⟩) g p u s]
  simp only [coe_mul_add, Finset.sum_add_distrib, ← EReal.coe_mul, ← coe_sum, add_assoc]
  simp only [mul_comm (fb _)]

end Cert.Value
end
-- ==== Proof.Value.Front.lean ====
/- The front and the embedding: the two programs' forms agree once the modulation's shift is zero. -/
module

public import proofs.«01_k».proof.Proof.Value.SpecRef

@[expose] public section

noncomputable section

namespace Cert.Value

open Idealize.ShloMosaic

/-- A sum over the 640 gates, by memory item and channel. -/
theorem sum_gates (f : Fin 640 → EReal) : ∑ j, f j = ∑ k : Fin 128, ∑ i : Fin 5, f ⟨i.val * 128 + k.val, by omega⟩ := by
  rw [Finset.sum_comm, ← Fintype.sum_prod_type', ← Equiv.sum_comp (finProdFinEquiv : Fin 5 × Fin 128 ≃ Fin 640) f]
  refine Finset.sum_congr rfl fun p _ => congrArg f (Fin.ext ?_)
  show p.2.val + 128 * p.1.val = p.1.val * 128 + p.2.val
  omega

/-- A sum over the 2048 entries of a patch, by channel, row and column. -/
theorem sum_patch (f : Fin 4 → Fin 4 → Fin 128 → EReal) :
    ∑ t : Fin 2048, f ⟨t.val / 512, by omega⟩ ⟨t.val / 128 % 4, by omega⟩ ⟨t.val % 128, by omega⟩
      = ∑ k : Fin 128, ∑ p : Fin 4, ∑ q : Fin 4, f p q k := by
  have hE (g : Fin 2048 → EReal) : ∑ t, g t = ∑ p : Fin 4, ∑ q : Fin 4, ∑ k : Fin 128, g ⟨p.val * 512 + q.val * 128 + k.val, by omega⟩ := by
    rw [← Equiv.sum_comp (finProdFinEquiv : Fin 4 × Fin 512 ≃ Fin 2048) g, Fintype.sum_prod_type]
    refine Finset.sum_congr rfl fun p _ => ?_
    rw [← Equiv.sum_comp (finProdFinEquiv : Fin 4 × Fin 128 ≃ Fin 512), Fintype.sum_prod_type]
    refine Finset.sum_congr rfl fun q _ => Finset.sum_congr rfl fun k _ => congrArg g (Fin.ext ?_)
    show k.val + 128 * q.val + 512 * p.val = p.val * 512 + q.val * 128 + k.val
    omega
  have hf (p q : Fin 4) (k : Fin 128) :
      f ⟨(p.val * 512 + q.val * 128 + k.val) / 512, by omega⟩ ⟨(p.val * 512 + q.val * 128 + k.val) / 128 % 4, by omega⟩
        ⟨(p.val * 512 + q.val * 128 + k.val) % 128, by omega⟩ = f p q k := by
    have e1 : (p.val * 512 + q.val * 128 + k.val) / 512 = p.val := by omega
    have e2 : (p.val * 512 + q.val * 128 + k.val) / 128 % 4 = q.val := by omega
    have e3 : (p.val * 512 + q.val * 128 + k.val) % 128 = k.val := by omega
    simp only [e1, e2, e3]
  rw [hE]
  simp only [hf]
  calc _ = ∑ p : Fin 4, ∑ k : Fin 128, ∑ q : Fin 4, f p q k := Finset.sum_congr rfl fun p _ => Finset.sum_comm
    _ = _ := Finset.sum_comm

namespace Args
variable (A : Args)

/-- The kernel's front is the reference's. -/
theorem front_agree (hb : ∀ n, A.modb n = 0) (X : Fin 128 → EReal) (o : Fin 128) :
    frontK (fun k n => A.modw n k) A.wtop A.wbot A.bsn X o = A.frontR X o := by
  have hg (n : Fin 640) : Ideal.logistic (∑ c, unit X c * A.modw n c) = A.gateR X n := by rw [gateR, hb, add_zero]
  unfold frontK frontR
  simp only [hg]
  by_cases h : o.val < 64
  · simp only [wtop, wbot, bsn, h, dif_pos, mul_zero, Finset.sum_const_zero, add_zero]
    rw [sum_gates]
    refine congrArg (· + _) (Finset.sum_congr rfl fun k _ => Finset.sum_congr rfl fun i _ => ?_)
    have e1 : (i.val * 128 + k.val) / 128 = i.val := by omega
    have e2 : (i.val * 128 + k.val) % 128 = k.val := by omega
    simp only [e1, e2]
    rw [mul_comm, mul_assoc]
  · simp only [wtop, wbot, bsn, h, dif_neg, not_false_eq_true, mul_zero, Finset.sum_const_zero, zero_add]
    exact congrArg (· + _) (Finset.sum_congr rfl fun k _ => mul_comm _ _)

/-- The kernel's embedded patch is the reference's. -/
theorem emb_agree (hb : ∀ n, A.modb n = 0) (b : Fin 4) (i j : Fin 32) (o : Fin 128) :
    embedK (fun p q => frontK (fun k n => A.modw n k) A.wtop A.wbot A.bsn
      fun k => A.s b k ⟨i.val * 4 + p.val, by omega⟩ ⟨j.val * 4 + q.val, by omega⟩)
    (fun t o => A.pew o ⟨t.val % 128, by omega⟩ ⟨t.val / 512, by omega⟩ ⟨t.val / 128 % 4, by omega⟩) o + A.peb o = A.embR b i j o := by
  unfold embedK embR
  simp only [A.front_agree hb]
  exact congrArg (· + _) (sum_patch fun p q k =>
    A.frontR (fun c => A.s b c ⟨i.val * 4 + p.val, by omega⟩ ⟨j.val * 4 + q.val, by omega⟩) k * A.pew o k p q)

end Args

end Cert.Value
end
-- ==== Proof.Value.Agree.lean ====
/- The two programs' results agree. -/
module

public import proofs.«01_k».proof.Proof.Value.Up
public import proofs.«01_k».proof.Proof.Value.Front

@[expose] public section

noncomputable section

namespace Cert.Value.Args

open Idealize.ShloMosaic

variable (A : Args)

/-- What the precondition says: the modulation's shift is zero, and five parameters are real. -/
structure Tame : Prop where
  modb : ∀ n, A.modb n = 0
  peg : ∀ k, ∃ r : ℝ, A.peg k = (r : EReal)
  pebeta : ∀ k, ∃ r : ℝ, A.pebeta k = (r : EReal)
  expw : ∀ k e, ∃ r : ℝ, A.expw k e = (r : EReal)
  fing : ∀ e, ∃ r : ℝ, A.fing e = (r : EReal)
  upw : ∀ o e, ∃ r : ℝ, A.upw o e = (r : EReal)

/-- A fusion weight is a nonnegative real, whatever the weights are. -/
theorem fwt_real (k : Fin 2) : ∃ r : ℝ, 0 ≤ r ∧ A.fwt k = (r : EReal) := by
  obtain ⟨r, hr, he⟩ := eps8_real
  have hp (l : Fin 2) : 0 ≤ max (A.w2 l) 0 := le_max_right _ _
  unfold fwt
  have hS : max (A.w2 k) 0 ≤ ∑ l : Fin 2, max (A.w2 l) 0 := Finset.single_le_sum (f := fun l => max (A.w2 l) 0) (fun l _ => hp l) (Finset.mem_univ k)
  have hk := hp k
  generalize (∑ l : Fin 2, max (A.w2 l) 0) = S at hS
  generalize max (A.w2 k) 0 = w at hS hk
  rw [he]
  induction S using EReal.rec with
  | bot => exact absurd (hk.trans hS) (by simp)
  | top => exact ⟨0, le_rfl, by rw [EReal.top_add_coe, Ideal.div, if_neg (by simp), EReal.inv_top, mul_zero, EReal.coe_zero]⟩
  | coe S =>
    induction w using EReal.rec with
    | bot => exact absurd hk (by simp)
    | top => exact absurd hS (by simp)
    | coe w =>
      have hw : 0 ≤ w := by exact_mod_cast hk
      have hwS : w ≤ S := by exact_mod_cast hS
      have hpos : 0 < S + r := by linarith
      exact ⟨w * (1 / (S + r)), mul_nonneg hw (one_div_pos.mpr hpos).le, by rw [← EReal.coe_add, Ideal.div_coe hpos.ne', ← EReal.coe_mul]⟩

/-- The two programs' patch features agree. -/
theorem feat_agree (h : A.Tame) (b : Fin 4) (i j : Fin 32) : A.featK b i j = A.featR b i j := by
  unfold featK featR
  rw [normK_eq]
  exact congrArg (fun h => normR c128 h A.peg A.pebeta) (funext fun o => A.emb_agree h.modb b i j o)

/-- The two programs' fused images agree. -/
theorem fuse_agree (h : A.Tame) (b : Fin 4) (y x o : Fin 128) : A.fuseK b y x o = A.fuseR b y x o := by
  obtain ⟨u, hu, hu1⟩ := A.fwt_real 1
  obtain ⟨v, hv, hv0⟩ := A.fwt_real 0
  choose W hW using h.expw
  choose g hg using h.fing
  choose p hp using h.upw
  have hf : ∀ k, ∃ r : ℝ, A.featR b ⟨y.val / 4, by omega⟩ ⟨x.val / 4, by omega⟩ k = (r : EReal) := fun k => by
    unfold featR
    rw [c128_eq]
    exact normR_real 128 (by norm_num) _ _ _ h.peg h.pebeta k
  choose f hf using hf
  unfold fuseK fuseR
  rw [A.feat_agree h]
  have hq : dot (fun k => A.q b k y x) (fun k => A.fwt 0 * A.wpre o k) = A.fwt 0 * ∑ k, A.wpre o k * A.q b k y x := by
    rw [hv0, mul_sum_of_nonneg v hv]
    exact Finset.sum_congr rfl fun k _ => by rw [mul_comm, mul_assoc]
  refine congrArg₂ (· + ·) hq ?_
  have hh : A.expR b y x = fun e : Fin 32 => ∑ k, (f k : EReal)
      * (W k ⟨(⟨y.val % 4 * 4 + x.val % 4, by omega⟩ : Fin 16).val * 32 + e.val, by show (y.val % 4 * 4 + x.val % 4) * 32 + e.val < 512; omega⟩ : EReal) := by
    funext e
    refine Finset.sum_congr rfl fun k _ => ?_
    rw [hf, hW]
    refine congrArg (fun n => (f k : EReal) * (W k n : EReal)) (Fin.ext ?_)
    show y.val % 4 * 128 + x.val % 4 * 32 + e.val = (y.val % 4 * 4 + x.val % 4) * 32 + e.val
    omega
  have key := up_agree f W g (p o) u A.finb (A.upb o) ⟨y.val % 4 * 4 + x.val % 4, by omega⟩
  rw [hu1, hh, (funext hg : A.fing = fun e => (g e : EReal))]
  simp only [hp]
  rw [← key]
  have e1 : A.featR b ⟨y.val / 4, by omega⟩ ⟨x.val / 4, by omega⟩ = fun k => (f k : EReal) := funext hf
  have e2 : A.expw = fun k n => (W k n : EReal) := funext fun k => funext (hW k)
  rw [e1, e2]
  have e3 (e : Fin 32) : A.wp e o = (u : EReal) * ((g e : EReal) * (p o e : EReal)) := by rw [wp, hu1, hg, hp]
  have e4 (q : Fin 16) : A.gall q o = fun k => ∑ e : Fin 32, (W k ⟨q.val * 32 + e.val, by omega⟩ : EReal) * ((u : EReal) * ((g e : EReal) * (p o e : EReal))) := by
    funext k
    unfold gall
    simp only [e3, hW]
  rw [e4]
  simp only [e3]

/-- The two programs' results agree. -/
theorem out_agree (h : A.Tame) : A.outK = A.outR := by
  funext b o y x
  unfold outK outR
  have e : A.fuseK = A.fuseR := by funext b y x o; exact A.fuse_agree h b y x o
  obtain ⟨r, hr, hc⟩ := bnc_real
  have hs : Ideal.sqrt bnc = ((Real.sqrt r : ℝ) : EReal) := by rw [hc, Ideal.sqrt_coe, if_neg hr.not_gt]
  rw [e, hs, Ideal.div_coe (Real.sqrt_pos.mpr hr).ne', Ideal.div_coe (Real.sqrt_pos.mpr hr).ne', one_mul]

end Cert.Value.Args
end
-- ==== Proof.Value.Tame.lean ====
/- The precondition, read off its printed form: the modulation's shift is zero and five parameters are real. -/
module

public import proofs.«01_k».proof.Defs
public import proofs.«01_k».proof.Proof.Value.Kernel
public import proofs.«01_k».proof.Proof.Value.Agree

@[expose] public section

noncomputable section

namespace Cert.Value

open Idealize.ShloMosaic

/-- The spreads of a single number the precondition writes. -/
instance tameFacts : Cert.Pre_tame.Facts where
  bcast_S_S640 := by decide
  bcast_S_S128 := by decide
  bcast_S_S128x512 := by decide
  bcast_S_S32 := by decide
  bcast_S_S128x32 := by decide

/-- A number equal to the pattern of zero is zero. -/
theorem zero_of_bit (x : EReal) (h : FloatOps.cmpf (F := Ideal) (φ := .f32) .oeq x (FloatOps.ofBits .f32 0#32) = 1#1) : x = 0 := by
  have h' : BitVec.ofBool (decide (x = Ideal.ofBits .f32 0#32)) = 1#1 := h
  rw [zero_bits] at h'
  by_contra hx
  rw [decide_eq_false hx] at h'
  exact absurd h' (by decide)

/-- A number whose magnitude lies below the pattern of infinity is real. -/
theorem real_of_bit (x : EReal) (h : FloatOps.cmpf (F := Ideal) (φ := .f32) .olt (FloatOps.hostAbsf (F := Ideal) (φ := .f32) x) (FloatOps.ofBits .f32 2139095040#32) = 1#1) :
    ∃ r : ℝ, x = (r : EReal) := by
  have h' : BitVec.ofBool (decide (max x (-x) < Ideal.ofBits .f32 2139095040#32)) = 1#1 := h
  rw [inf_bits] at h'
  have hx : max x (-x) < ⊤ := by
    by_contra hx
    rw [decide_eq_false hx] at h'
    exact absurd h' (by decide)
  induction x using EReal.rec with
  | coe r => exact ⟨r, rfl⟩
  | bot => exact absurd hx (by simp)
  | top => exact absurd hx (by simp)

variable (m : (ℓ : Loc Cert.KernelIdeal.nD Cert.KernelIdeal.τ Cert.KernelIdeal.sig) → Buf (Elt Ideal) ℓ)

/-- Under the precondition the arguments of every device are tame. -/
theorem tame (h : Cert.Pre_KernelIdeal_tame m) (c : Dev Cert.KernelIdeal.nD) : (Kernel.args m c).Tame := by
  obtain ⟨h1, h2, h3, h4, h5, h6⟩ := h c
  exact ⟨fun n => zero_of_bit _ (congrFun h1 (ix1 n)), fun k => real_of_bit _ (congrFun h2 (ix1 k)), fun k => real_of_bit _ (congrFun h3 (ix1 k)),
    fun k e => real_of_bit _ (congrFun h4 (ix2 k e)), fun e => real_of_bit _ (congrFun h5 (ix1 e)), fun o e => real_of_bit _ (congrFun h6 (ix2 o e))⟩

end Cert.Value
end
-- ==== Proof.Value.RefFront.lean ====
/- The reference's front, element by element: the normalised image, the gates, the two halves and their join. -/
module

public import proofs.«01_k».proof.Proof.Gen.ReferenceIdeal.Read
public import proofs.«01_k».proof.Proof.Value.Spec
public import Idealize.ShloMosaic.Lib.Pointwise

@[expose] public section

noncomputable section

namespace Cert.Value.Ref

open Idealize.ShloMosaic Cert.ReferenceIdeal Cert.ReferenceIdeal.Read

variable (x0 : Vec Ideal S4x128x128x128 .f32) (x2 : Vec Ideal S5x128 .f32) (x3 : Vec Ideal S640x128 .f32) (x4 : Vec Ideal S640 .f32)
  (x5 : Vec Ideal S64x640 .f32) (x6 : Vec Ideal S64 .f32) (x7 : Vec Ideal S64x128 .f32) (x8 : Vec Ideal S64 .f32)
  (x9 : Vec Ideal S128x128x4x4 .f32)

/-- A column of channels over its length. -/
theorem unit_apply (b : Fin 4) (k y x : Fin 128) :
    val_main_v4 (F := Ideal) x0 (ix4 b k y x) = unit (fun k => x0 (ix4 b k y x)) k := by
  pointwise [val_main_v4, val_main_v3, val_main_v2, val_main_v1, val_main_v0, val_main_cst, val_main_call0_v2, val_main_call0_v1, val_main_call0_v0, val_main_call0_cst]
  rfl

/-- The gates: a logistic function of the modulation layer. -/
theorem gate_apply (b : Fin 4) (n : Fin 640) (y x : Fin 128) :
    val_main_v15 (F := Ideal) x0 x3 x4 (ix4 b n y x)
      = Ideal.logistic ((∑ k, unit (fun k => x0 (ix4 b k y x)) k * x3 (ix2 n k)) + x4 (ix1 n)) := by
  pointwise [val_main_v15, val_main_v14, val_main_v13, val_main_v12, val_main_v11, val_main_v10, val_main_v9, val_main_v8, val_main_v7, val_main_v6, val_main_v5, val_main_cst_0, val_main_cst_1]
  simp only [unit_apply, Ideal.logistic, mul_comm (x3 _)]

/-- The gated half. -/
theorem top_apply (b : Fin 4) (o : Fin 64) (y x : Fin 128) :
    val_main_v25 (F := Ideal) x0 x2 x3 x4 x5 x6 (ix4 b o y x)
      = (∑ k : Fin 128, ∑ i : Fin 5, x5 (ix2 o ⟨i.val * 128 + k.val, by omega⟩) * (x2 (ix2 i k)
          * Ideal.logistic ((∑ l, unit (fun k => x0 (ix4 b k y x)) l * x3 (ix2 ⟨i.val * 128 + k.val, by omega⟩ l)) + x4 (ix1 ⟨i.val * 128 + k.val, by omega⟩))))
        + x6 (ix1 o) := by
  pointwise [val_main_v25, val_main_v24, val_main_v23, val_main_v22, val_main_v21, val_main_v20, val_main_v19, val_main_v18, val_main_v17, val_main_v16]
  simp only [gate_apply]

/-- The bypass half. -/
theorem bot_apply (b : Fin 4) (o : Fin 64) (y x : Fin 128) :
    val_main_v30 (F := Ideal) x0 x7 x8 (ix4 b o y x) = (∑ k, x7 (ix2 o k) * unit (fun k => x0 (ix4 b k y x)) k) + x8 (ix1 o) := by
  pointwise [val_main_v30, val_main_v29, val_main_v28, val_main_v27, val_main_v26]
  simp only [unit_apply]

/-- The two halves joined, cut into patches. -/
theorem join_apply (b : Fin 4) (o : Fin 128) (i : Fin 32) (p : Fin 4) (j : Fin 32) (q : Fin 4) :
    val_main_v32 (F := Ideal) x0 x2 x3 x4 x5 x6 x7 x8 (ix6 b o i p j q)
      = if h : o.val < 64 then val_main_v25 (F := Ideal) x0 x2 x3 x4 x5 x6 (ix4 b ⟨o.val, h⟩ ⟨i.val * 4 + p.val, by omega⟩ ⟨j.val * 4 + q.val, by omega⟩)
        else val_main_v30 (F := Ideal) x0 x7 x8 (ix4 b ⟨o.val - 64, by omega⟩ ⟨i.val * 4 + p.val, by omega⟩ ⟨j.val * 4 + q.val, by omega⟩) := by
  pointwise [val_main_v32, val_main_v31]

/-- The embedding's contraction index is a channel and a place in the patch. -/
def patchIdx : (Fin 128 × Fin 4 × Fin 4) ≃ dot_S4x128x32x4x32x4_S128x128x4x4_S4x32x32x128_135_123_024_0_n_n.contr.Idx where
  toFun u := fun a => match a with
    | ⟨0, _⟩ => u.1
    | ⟨1, _⟩ => u.2.1
    | ⟨2, _⟩ => u.2.2
  invFun k := (k ⟨0, by decide⟩, k ⟨1, by decide⟩, k ⟨2, by decide⟩)
  left_inv _ := rfl
  right_inv k := by
    funext a
    match a with
    | ⟨0, _⟩ => rfl
    | ⟨1, _⟩ => rfl
    | ⟨2, _⟩ => rfl

/-- The embedding of a patch: a sum over its channels, rows and columns. -/
theorem patch_apply (v : FVec Ideal S4x128x32x4x32x4 .f32) (w : FVec Ideal S128x128x4x4 .f32) (b : Fin 4) (i j : Fin 32) (o : Fin 128) :
    Host.dotGeneral dot_S4x128x32x4x32x4_S128x128x4x4_S4x32x32x128_135_123_024_0_n_n none v w (ix4 b i j o)
      = ∑ k : Fin 128, ∑ p : Fin 4, ∑ q : Fin 4, v (ix6 b k i p j q) * w (ix4 o k p q) := by
  simp only [Host.dotGeneral]
  rw [Ideal.dotGeneral_apply, ← Equiv.sum_comp patchIdx, Fintype.sum_prod_type]
  refine Finset.sum_congr rfl fun k _ => ?_
  rw [Fintype.sum_prod_type]
  refine Finset.sum_congr rfl fun p _ => Finset.sum_congr rfl fun q _ => ?_
  have el : dot_S4x128x32x4x32x4_S128x128x4x4_S4x32x32x128_135_123_024_0_n_n.lhsIdx (ix4 b i j o) (patchIdx (k, p, q)) = ix6 b k i p j q := by
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  have er : dot_S4x128x32x4x32x4_S128x128x4x4_S4x32x32x128_135_123_024_0_n_n.rhsIdx (ix4 b i j o) (patchIdx (k, p, q)) = ix4 o k p q := by
    funext a; apply Fin.ext
    match a with
    | ⟨0, _⟩ => rfl
    | ⟨1, _⟩ => rfl
    | ⟨2, _⟩ => rfl
    | ⟨3, _⟩ => rfl
  rw [el, er]

end Cert.Value.Ref
end
-- ==== Proof.Value.RefBack.lean ====
/- The reference after its front, element by element: embedding, normalisations, expansion, up-projection and fusion. -/
module

public import proofs.«01_k».proof.Proof.Value.RefFront
public import proofs.«01_k».proof.Proof.Value.SpecRef
public import proofs.«01_k».proof.Proof.Value.Consts

@[expose] public section

noncomputable section

namespace Cert.Value.Ref

open Idealize.ShloMosaic Cert.ReferenceIdeal Cert.ReferenceIdeal.Read

variable (x0 x1 : Vec Ideal S4x128x128x128 .f32) (x2 : Vec Ideal S5x128 .f32) (x3 : Vec Ideal S640x128 .f32) (x4 : Vec Ideal S640 .f32)
  (x5 : Vec Ideal S64x640 .f32) (x6 : Vec Ideal S64 .f32) (x7 : Vec Ideal S64x128 .f32) (x8 : Vec Ideal S64 .f32)
  (x9 : Vec Ideal S128x128x4x4 .f32) (x10 x11 x12 : Vec Ideal S128 .f32) (x13 : Vec Ideal S128x512 .f32) (x14 x15 : Vec Ideal S32 .f32)
  (x16 : Vec Ideal S128x32 .f32) (x17 : Vec Ideal S128 .f32) (x18 : Vec Ideal S2 .f32) (x19 : Vec Ideal S128x128 .f32)
  (x20 : Vec Ideal S128x128x3x3 .f32) (x21 x22 : Vec Ideal S128 .f32)

/-- A choice by a true flag spread over an array takes the first array. -/
theorem pick {t : Shape} (h : S_.BroadcastsInDim t ![]) (c : IVec S_ 1) (a b : Vec Ideal t .f32) (hc : c = fun _ => 1#1) (i : t.Idx) :
    select (broadcastInDim t ![] h c) a b i = a i := by
  subst hc; rfl

/-- Taking the integer zero from a number leaves it. -/
theorem less_zero (x : EReal) : FloatOps.subf (F := Ideal) (φ := .f32) x (FloatOps.sitofp .f32 (0#32)) = x := by
  have h : FloatOps.sitofp (F := Ideal) .f32 (0#32) = (0 : EReal) := by
    show ((((0#32 : BitVec 32).toInt : ℤ) : ℝ) : EReal) = 0
    simp
  rw [h]; exact sub_zero x

/-- The count of channels is positive. -/
theorem flag : val_main_call1_v13 (F := Ideal) = fun _ => 1#1 := by
  funext i
  rw [val_main_call1_v13_apply, val_main_call1_v8_apply, val_main_call1_v7_apply]
  have h1 : FloatOps.subf (FloatOps.ofBits (F := Ideal) .f32 1124073472#32) (FloatOps.sitofp .f32 0#32) = c128 := less_zero _
  have h0 : FloatOps.ofBits (F := Ideal) .f32 0#32 = (0 : EReal) := zero_bits
  rw [val_main_call1_cst_1_apply, val_main_call1_cst_3_apply, val_main_c_apply, h1, h0]
  show BitVec.ofBool (decide ((0 : EReal) < c128)) = 1#1
  have hp : (0 : EReal) < c128 := by rw [c128_eq]; exact_mod_cast (by norm_num : (0 : ℝ) < 128)
  rw [decide_eq_true hp]; rfl

/-- The mean of a patch's embedding. -/
theorem mean_apply (b : Fin 4) (i j : Fin 32) : val_main_v40 (F := Ideal) x0 x2 x3 x4 x5 x6 x7 x8 x9 x10 (ix4 b i j 0) = meanR c128 fun k => val_main_v36 (F := Ideal) x0 x2 x3 x4 x5 x6 x7 x8 x9 x10 (ix4 b i j k) := by
  rw [val_main_v40_apply, val_main_v38_apply, val_main_v37_apply, val_main_v39_apply, val_main_cst_3_apply, val_main_cst_2_apply]
  have e1 (k : Fin 128) : idx_main_v37 (idx_main_v38 (ix4 b i j 0)) k = ix4 b i j k := by funext a; fin_cases a <;> rfl
  simp only [e1]
  generalize val_main_v36 (F := Ideal) x0 x2 x3 x4 x5 x6 x7 x8 x9 x10 = z
  show Ideal.div (Ideal.ofBits .f32 0#32 + _) _ = _
  rw [zero_bits, zero_add]; rfl

/-- The variance of a patch's embedding. -/
theorem var_apply (b : Fin 4) (i j : Fin 32) : val_main_v41 (F := Ideal) x0 x2 x3 x4 x5 x6 x7 x8 x9 x10 (ix4 b i j 0) = varR c128 fun k => val_main_v36 (F := Ideal) x0 x2 x3 x4 x5 x6 x7 x8 x9 x10 (ix4 b i j k) := by
  unfold val_main_v41
  rw [pick Gen.bcast_S_S4x32x32x1 _ _ _ flag]
  rw [val_main_call1_v12_apply, val_main_call1_v10_apply, val_main_call1_v9_apply, val_main_call1_v11_apply, val_main_call1_v8_apply]
  have e1 (k : Fin 128) : idx_main_call1_v9 (idx_main_call1_v10 (ix4 b i j 0)) k = ix4 b i j k := by funext a; fin_cases a <;> rfl
  have hd (k : Fin 128) : val_main_call1_v6 (F := Ideal) x0 x2 x3 x4 x5 x6 x7 x8 x9 x10 (ix4 b i j k)
      = (val_main_v36 (F := Ideal) x0 x2 x3 x4 x5 x6 x7 x8 x9 x10 (ix4 b i j k) - meanR c128 fun k => val_main_v36 (F := Ideal) x0 x2 x3 x4 x5 x6 x7 x8 x9 x10 (ix4 b i j k))
        * (val_main_v36 (F := Ideal) x0 x2 x3 x4 x5 x6 x7 x8 x9 x10 (ix4 b i j k) - meanR c128 fun k => val_main_v36 (F := Ideal) x0 x2 x3 x4 x5 x6 x7 x8 x9 x10 (ix4 b i j k)) := by
    have e3 (l : Fin 128) : idx_main_call1_v0 (idx_main_call1_v1 (idx_main_call1_v4 (ix4 b i j k))) l = ix4 b i j l := by funext a; fin_cases a <;> rfl
    rw [val_main_call1_v6_apply, val_main_call1_v5_apply, val_main_call1_v4_apply, val_main_call1_v3_apply, val_main_call1_v1_apply, val_main_call1_v0_apply,
      val_main_call1_v2_apply, val_main_call1_cst_apply, val_main_call1_cst_0_apply, Finset.sum_congr rfl fun l _ => congrArg _ (e3 l)]
    generalize val_main_v36 (F := Ideal) x0 x2 x3 x4 x5 x6 x7 x8 x9 x10 = z
    have h0 : FloatOps.ofBits (F := Ideal) .f32 0#32 = (0 : EReal) := zero_bits
    rw [h0, zero_add]; rfl
  rw [Finset.sum_congr rfl fun k _ => (congrArg _ (e1 k)).trans (hd k), val_main_call1_cst_2_apply, val_main_call1_v7_apply, val_main_call1_cst_1_apply, val_main_c_apply]
  generalize val_main_v36 (F := Ideal) x0 x2 x3 x4 x5 x6 x7 x8 x9 x10 = z
  have h1 : FloatOps.subf (FloatOps.ofBits (F := Ideal) .f32 1124073472#32) (FloatOps.sitofp .f32 0#32) = c128 := less_zero _
  have h0 : FloatOps.ofBits (F := Ideal) .f32 0#32 = (0 : EReal) := zero_bits
  rw [h1, h0, zero_add]; rfl

/-- The normalised embedding of a patch. -/
theorem norm_apply (b : Fin 4) (i j : Fin 32) (o : Fin 128) : val_main_v54 (F := Ideal) x0 x2 x3 x4 x5 x6 x7 x8 x9 x10 x11 x12 (ix4 b i j o)
    = normR c128 (fun k => val_main_v36 (F := Ideal) x0 x2 x3 x4 x5 x6 x7 x8 x9 x10 (ix4 b i j k)) (fun k => x11 (ix1 k)) (fun k => x12 (ix1 k)) o := by
  rw [val_main_v54_apply, val_main_v51_apply, val_main_v48_apply, val_main_v47_apply, val_main_v46_apply, val_main_v45_apply, val_main_v43_apply,
    val_main_v42_apply, val_main_v44_apply, val_main_v50_apply, val_main_v49_apply, val_main_v53_apply, val_main_v52_apply, val_main_cst_4_apply]
  have e1 : idx_main_v42 (ix4 b i j o) = ix4 b i j 0 := by funext a; fin_cases a <;> rfl
  have e2 : idx_main_v47 (ix4 b i j o) = ix4 b i j 0 := by funext a; fin_cases a <;> rfl
  have e3 : idx_main_v49 (idx_main_v50 (ix4 b i j o)) = ix1 o := by funext a; fin_cases a; rfl
  have e4 : idx_main_v52 (idx_main_v53 (ix4 b i j o)) = ix1 o := by funext a; fin_cases a; rfl
  rw [e1, e2, e3, e4, mean_apply, var_apply]
  generalize val_main_v36 (F := Ideal) x0 x2 x3 x4 x5 x6 x7 x8 x9 x10 = z
  rfl
/-- The count of features is positive. -/
theorem flag2 : val_main_call2_v13 (F := Ideal) = fun _ => 1#1 := by
  funext i
  rw [val_main_call2_v13_apply, val_main_call2_v8_apply, val_main_call2_v7_apply]
  have h1 : FloatOps.subf (FloatOps.ofBits (F := Ideal) .f32 1107296256#32) (FloatOps.sitofp .f32 0#32) = c32 := less_zero _
  have h0 : FloatOps.ofBits (F := Ideal) .f32 0#32 = (0 : EReal) := zero_bits
  rw [val_main_call2_cst_1_apply, val_main_call2_cst_3_apply, val_main_c_7_apply, h1, h0]
  show BitVec.ofBool (decide ((0 : EReal) < c32)) = 1#1
  have hp : (0 : EReal) < c32 := by rw [c32_eq]; exact_mod_cast (by norm_num : (0 : ℝ) < 32)
  rw [decide_eq_true hp]; rfl

/-- The mean of a pixel's features. -/
theorem mean2_apply (b : Fin 4) (y x : Fin 128) : val_main_v62 (F := Ideal) x0 x2 x3 x4 x5 x6 x7 x8 x9 x10 x11 x12 x13 (ix4 b y x 0) = meanR c32 fun k => val_main_v58 (F := Ideal) x0 x2 x3 x4 x5 x6 x7 x8 x9 x10 x11 x12 x13 (ix4 b y x k) := by
  rw [val_main_v62_apply, val_main_v60_apply, val_main_v59_apply, val_main_v61_apply, val_main_cst_6_apply, val_main_cst_5_apply]
  have e1 (k : Fin 32) : idx_main_v59 (idx_main_v60 (ix4 b y x 0)) k = ix4 b y x k := by funext a; fin_cases a <;> rfl
  simp only [e1]
  generalize val_main_v58 (F := Ideal) x0 x2 x3 x4 x5 x6 x7 x8 x9 x10 x11 x12 x13 = z
  show Ideal.div (Ideal.ofBits .f32 0#32 + _) _ = _
  rw [zero_bits, zero_add]; rfl

/-- The variance of a pixel's features. -/
theorem var2_apply (b : Fin 4) (y x : Fin 128) : val_main_v63 (F := Ideal) x0 x2 x3 x4 x5 x6 x7 x8 x9 x10 x11 x12 x13 (ix4 b y x 0) = varR c32 fun k => val_main_v58 (F := Ideal) x0 x2 x3 x4 x5 x6 x7 x8 x9 x10 x11 x12 x13 (ix4 b y x k) := by
  unfold val_main_v63
  rw [pick Gen.bcast_S_S4x128x128x1 _ _ _ flag2]
  rw [val_main_call2_v12_apply, val_main_call2_v10_apply, val_main_call2_v9_apply, val_main_call2_v11_apply, val_main_call2_v8_apply]
  have e1 (k : Fin 32) : idx_main_call2_v9 (idx_main_call2_v10 (ix4 b y x 0)) k = ix4 b y x k := by funext a; fin_cases a <;> rfl
  have hd (k : Fin 32) : val_main_call2_v6 (F := Ideal) x0 x2 x3 x4 x5 x6 x7 x8 x9 x10 x11 x12 x13 (ix4 b y x k)
      = (val_main_v58 (F := Ideal) x0 x2 x3 x4 x5 x6 x7 x8 x9 x10 x11 x12 x13 (ix4 b y x k) - meanR c32 fun k => val_main_v58 (F := Ideal) x0 x2 x3 x4 x5 x6 x7 x8 x9 x10 x11 x12 x13 (ix4 b y x k))
        * (val_main_v58 (F := Ideal) x0 x2 x3 x4 x5 x6 x7 x8 x9 x10 x11 x12 x13 (ix4 b y x k) - meanR c32 fun k => val_main_v58 (F := Ideal) x0 x2 x3 x4 x5 x6 x7 x8 x9 x10 x11 x12 x13 (ix4 b y x k)) := by
    have e3 (l : Fin 32) : idx_main_call2_v0 (idx_main_call2_v1 (idx_main_call2_v4 (ix4 b y x k))) l = ix4 b y x l := by funext a; fin_cases a <;> rfl
    rw [val_main_call2_v6_apply, val_main_call2_v5_apply, val_main_call2_v4_apply, val_main_call2_v3_apply, val_main_call2_v1_apply, val_main_call2_v0_apply,
      val_main_call2_v2_apply, val_main_call2_cst_apply, val_main_call2_cst_0_apply, Finset.sum_congr rfl fun l _ => congrArg _ (e3 l)]
    generalize val_main_v58 (F := Ideal) x0 x2 x3 x4 x5 x6 x7 x8 x9 x10 x11 x12 x13 = z
    have h0 : FloatOps.ofBits (F := Ideal) .f32 0#32 = (0 : EReal) := zero_bits
    rw [h0, zero_add]; rfl
  rw [Finset.sum_congr rfl fun k _ => (congrArg _ (e1 k)).trans (hd k), val_main_call2_cst_2_apply, val_main_call2_v7_apply, val_main_call2_cst_1_apply, val_main_c_7_apply]
  generalize val_main_v58 (F := Ideal) x0 x2 x3 x4 x5 x6 x7 x8 x9 x10 x11 x12 x13 = z
  have h1 : FloatOps.subf (FloatOps.ofBits (F := Ideal) .f32 1107296256#32) (FloatOps.sitofp .f32 0#32) = c32 := less_zero _
  have h0 : FloatOps.ofBits (F := Ideal) .f32 0#32 = (0 : EReal) := zero_bits
  rw [h1, h0, zero_add]; rfl

/-- A pixel's normalised features. -/
theorem norm2_apply (b : Fin 4) (y x : Fin 128) (o : Fin 32) : val_main_v76 (F := Ideal) x0 x2 x3 x4 x5 x6 x7 x8 x9 x10 x11 x12 x13 x14 x15 (ix4 b y x o)
    = normR c32 (fun k => val_main_v58 (F := Ideal) x0 x2 x3 x4 x5 x6 x7 x8 x9 x10 x11 x12 x13 (ix4 b y x k)) (fun k => x14 (ix1 k)) (fun k => x15 (ix1 k)) o := by
  rw [val_main_v76_apply, val_main_v73_apply, val_main_v70_apply, val_main_v69_apply, val_main_v68_apply, val_main_v67_apply, val_main_v65_apply,
    val_main_v64_apply, val_main_v66_apply, val_main_v72_apply, val_main_v71_apply, val_main_v75_apply, val_main_v74_apply, val_main_cst_8_apply]
  have e1 : idx_main_v64 (ix4 b y x o) = ix4 b y x 0 := by funext a; fin_cases a <;> rfl
  have e2 : idx_main_v69 (ix4 b y x o) = ix4 b y x 0 := by funext a; fin_cases a <;> rfl
  have e3 : idx_main_v71 (idx_main_v72 (ix4 b y x o)) = ix1 o := by funext a; fin_cases a; rfl
  have e4 : idx_main_v74 (idx_main_v75 (ix4 b y x o)) = ix1 o := by funext a; fin_cases a; rfl
  rw [e1, e2, e3, e4, mean2_apply, var2_apply]
  generalize val_main_v58 (F := Ideal) x0 x2 x3 x4 x5 x6 x7 x8 x9 x10 x11 x12 x13 = z
  rfl

/-- The expanded features at one pixel, in the expansion of its patch. -/
theorem shuffle_apply (b : Fin 4) (y x : Fin 128) (e : Fin 32) :
    val_main_v58 (F := Ideal) x0 x2 x3 x4 x5 x6 x7 x8 x9 x10 x11 x12 x13 (ix4 b y x e)
      = ∑ k : Fin 128, val_main_v54 (F := Ideal) x0 x2 x3 x4 x5 x6 x7 x8 x9 x10 x11 x12 (ix4 b ⟨y.val / 4, by omega⟩ ⟨x.val / 4, by omega⟩ k)
        * x13 (ix2 k ⟨y.val % 4 * 128 + x.val % 4 * 32 + e.val, by omega⟩) := by
  pointwise [val_main_v58, val_main_v57, val_main_v56, val_main_v55]

/-- The embedding of a patch before its normalisation. -/
theorem embed_apply (b : Fin 4) (i j : Fin 32) (o : Fin 128) :
    val_main_v36 (F := Ideal) x0 x2 x3 x4 x5 x6 x7 x8 x9 x10 (ix4 b i j o)
      = (∑ k : Fin 128, ∑ p : Fin 4, ∑ q : Fin 4, val_main_v32 (F := Ideal) x0 x2 x3 x4 x5 x6 x7 x8 (ix6 b k i p j q) * x9 (ix4 o k p q)) + x10 (ix1 o) := by
  rw [val_main_v36_apply, val_main_v35_apply, val_main_v34_apply]
  have e1 : idx_main_v34 (idx_main_v35 (ix4 b i j o)) = ix1 o := by funext a; fin_cases a; rfl
  rw [e1]
  unfold val_main_v33
  rw [patch_apply]
  rfl

/-- One fusion weight. -/
theorem weight_apply (k : Fin 2) : val_main_v87 (F := Ideal) x18 (ix1 k)
    = Ideal.div (max (x18 (ix1 k)) 0) ((∑ l : Fin 2, max (x18 (ix1 l)) 0) + eps8) := by
  pointwise [val_main_v87, val_main_v86, val_main_v85, val_main_v84, val_main_v83, val_main_cst_9, val_main_cst_10, val_main_call3_cst, val_main_call3_v0]
  rfl

/-- The fused image: the weighted sum of the two up-projections. -/
theorem fused_apply (b : Fin 4) (y x : Fin 128) (o : Fin 128) :
    val_main_v98 (F := Ideal) x0 x1 x2 x3 x4 x5 x6 x7 x8 x9 x10 x11 x12 x13 x14 x15 x16 x17 x18 x19 (ix4 b o y x)
      = val_main_v87 (F := Ideal) x18 (ix1 0) * (∑ k : Fin 128, x19 (ix2 o k) * x1 (ix4 b k y x))
        + val_main_v87 (F := Ideal) x18 (ix1 1)
          * ((∑ e : Fin 32, x16 (ix2 o e) * val_main_v76 (F := Ideal) x0 x2 x3 x4 x5 x6 x7 x8 x9 x10 x11 x12 x13 x14 x15 (ix4 b y x e)) + x17 (ix1 o)) := by
  pointwise [val_main_v98, val_main_v97, val_main_v96, val_main_v95, val_main_v94, val_main_v93, val_main_v92, val_main_v91, val_main_v90, val_main_v89, val_main_v88, val_main_v82, val_main_v81, val_main_v80, val_main_v79, val_main_v78, val_main_v77]

end Cert.Value.Ref
end
-- ==== Proof.Value.RefConv.lean ====
/- The reference after its fused image, element by element: the padding, the nine taps and the clip. -/
module

public import Idealize.ShloMosaic.Lib.KernelVsHost
public import proofs.«01_k».proof.Proof.Value.RefBack

@[expose] public section

noncomputable section

namespace Cert.Value.Ref

open Idealize.ShloMosaic Cert.ReferenceIdeal Cert.ReferenceIdeal.Read

variable (x0 x1 : Vec Ideal S4x128x128x128 .f32) (x2 : Vec Ideal S5x128 .f32) (x3 : Vec Ideal S640x128 .f32) (x4 : Vec Ideal S640 .f32)
  (x5 : Vec Ideal S64x640 .f32) (x6 : Vec Ideal S64 .f32) (x7 : Vec Ideal S64x128 .f32) (x8 : Vec Ideal S64 .f32)
  (x9 : Vec Ideal S128x128x4x4 .f32) (x10 x11 x12 : Vec Ideal S128 .f32) (x13 : Vec Ideal S128x512 .f32) (x14 x15 : Vec Ideal S32 .f32)
  (x16 : Vec Ideal S128x32 .f32) (x17 : Vec Ideal S128 .f32) (x18 : Vec Ideal S2 .f32) (x19 : Vec Ideal S128x128 .f32)
  (x20 : Vec Ideal S128x128x3x3 .f32) (x21 x22 : Vec Ideal S128 .f32)

/-- The zero-padded fused image. -/
theorem padded_apply (b : Fin 4) (k : Fin 128) (r w : ℕ) (hr : r < 130) (hw : w < 130) :
    val_main_v99 (F := Ideal) x0 x1 x2 x3 x4 x5 x6 x7 x8 x9 x10 x11 x12 x13 x14 x15 x16 x17 x18 x19 (ix4 b k ⟨r, hr⟩ ⟨w, hw⟩) = xpad (fun b y x k => val_main_v98 (F := Ideal) x0 x1 x2 x3 x4 x5 x6 x7 x8 x9 x10 x11 x12 x13 x14 x15 x16 x17 x18 x19 (ix4 b k y x)) b r w k := by
  unfold val_main_v99 xpad
  generalize val_main_v98 (F := Ideal) x0 x1 x2 x3 x4 x5 x6 x7 x8 x9 x10 x11 x12 x13 x14 x15 x16 x17 x18 x19 = z
  split
  · rename_i h
    exact pad_apply_of_inside _ _ _ z _ _ _ _ (ix4 b k ⟨r - 1, by omega⟩ ⟨w - 1, by omega⟩) fun a => by
      fin_cases a
      · show b.val = 0 + b.val * 1; omega
      · show k.val = 0 + k.val * 1; omega
      · show r = 1 + (r - 1) * 1; omega
      · show w = 1 + (w - 1) * 1; omega
  · rename_i h
    have h0 : FloatOps.sitofp (F := Ideal) .f32 (0#32) = (0 : EReal) := by
      show ((((0#32 : BitVec 32).toInt : ℤ) : ℝ) : EReal) = 0
      simp
    rcases not_and_or.mp h with h | h
    · refine (pad_apply_of_not_inside _ _ _ z _ _ _ _ (2 : Fin 4) ?_).trans h0
      rintro ⟨h1, -, h2⟩
      replace h1 : 1 ≤ r := h1
      replace h2 : (r - 1) / 1 < 128 := h2
      omega
    · refine (pad_apply_of_not_inside _ _ _ z _ _ _ _ (3 : Fin 4) ?_).trans h0
      rintro ⟨h1, -, h2⟩
      replace h1 : 1 ≤ w := h1
      replace h2 : (w - 1) / 1 < 128 := h2
      omega

/-- The nine taps together are the convolution of the fused image. -/
theorem taps_apply (b : Fin 4) (o y x : Fin 128) :
    val_main_v154 (F := Ideal) x0 x1 x2 x3 x4 x5 x6 x7 x8 x9 x10 x11 x12 x13 x14 x15 x16 x17 x18 x19 x20 (ix4 b o y x)
      = conv (fun b y x k => val_main_v98 (F := Ideal) x0 x1 x2 x3 x4 x5 x6 x7 x8 x9 x10 x11 x12 x13 x14 x15 x16 x17 x18 x19 (ix4 b k y x)) (fun di dj k o => x20 (ix4 o k di dj)) b o y x := by
  pointwise [val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_cst_12]
  simp only [padded_apply]
  generalize (fun (b : Fin 4) (y x k : Fin 128) => val_main_v98 (F := Ideal) x0 x1 x2 x3 x4 x5 x6 x7 x8 x9 x10 x11 x12 x13 x14 x15 x16 x17 x18 x19 (ix4 b k y x)) = Z
  have T (di dj : Fin 3) (r w : ℕ) (hr : r = y.val + di.val) (hw : w = x.val + dj.val) :
      ∑ k, x20 (ix4 o k di dj) * xpad Z b r w k = ∑ k, xpad Z b (y.val + di.val) (x.val + dj.val) k * x20 (ix4 o k di dj) := by
    subst hr hw
    exact Finset.sum_congr rfl fun k _ => mul_comm _ _
  have h1 (n : Fin 128) : 1 + n.val = n.val + (1 : Fin 3).val := Nat.add_comm _ _
  have h2 (n : Fin 128) : 2 + n.val = n.val + (2 : Fin 3).val := Nat.add_comm _ _
  rw [T 0 0 y.val x.val rfl rfl, T 0 1 y.val _ rfl (h1 x), T 0 2 y.val _ rfl (h2 x), T 1 0 _ x.val (h1 y) rfl, T 1 1 _ _ (h1 y) (h1 x), T 1 2 _ _ (h1 y) (h2 x),
    T 2 0 _ x.val (h2 y) rfl, T 2 1 _ _ (h2 y) (h1 x), T 2 2 _ _ (h2 y) (h2 x)]
  simp only [conv, Fin.sum_univ_three, add_assoc]

/-- The result: the convolution scaled and shifted by the batch normalisation, then clipped. -/
theorem last_apply (b : Fin 4) (o y x : Fin 128) :
    val_main_v165 (F := Ideal) x0 x1 x2 x3 x4 x5 x6 x7 x8 x9 x10 x11 x12 x13 x14 x15 x16 x17 x18 x19 x20 x21 x22 (ix4 b o y x)
      = min six (max 0 (val_main_v154 (F := Ideal) x0 x1 x2 x3 x4 x5 x6 x7 x8 x9 x10 x11 x12 x13 x14 x15 x16 x17 x18 x19 x20 (ix4 b o y x) * Ideal.div (x21 (ix1 o)) (Ideal.sqrt bnc) + x22 (ix1 o))) := by
  pointwise [val_main_v165, val_main_call5_v2, val_main_call5_v1, val_main_call5_v0, val_main_call5_v3, val_main_call5_v4, val_main_v164, val_main_v163, val_main_v162, val_main_v161, val_main_v160, val_main_v159, val_main_v158, val_main_v157, val_main_v156, val_main_v155, val_main_cst_13, val_main_cst_14, val_main_cst_15]
  generalize val_main_v154 (F := Ideal) x0 x1 x2 x3 x4 x5 x6 x7 x8 x9 x10 x11 x12 x13 x14 x15 x16 x17 x18 x19 x20 (ix4 b o y x) = z
  have h0 : id (constant (F := Ideal) S_ .f32 0#32) ix0 = (0 : EReal) := zero_bits
  rw [h0]; rfl

end Cert.Value.Ref
end
-- ==== Proof.Value.Reference.lean ====
/- The reference's result, as one function of the program's arguments. -/
module

public import proofs.«01_k».proof.Proof.Value.RefConv

@[expose] public section

noncomputable section

namespace Cert.Value.Ref

open Idealize.ShloMosaic Cert.ReferenceIdeal Cert.ReferenceIdeal.Read

variable (x0 x1 : Vec Ideal S4x128x128x128 .f32) (x2 : Vec Ideal S5x128 .f32) (x3 : Vec Ideal S640x128 .f32) (x4 : Vec Ideal S640 .f32)
  (x5 : Vec Ideal S64x640 .f32) (x6 : Vec Ideal S64 .f32) (x7 : Vec Ideal S64x128 .f32) (x8 : Vec Ideal S64 .f32)
  (x9 : Vec Ideal S128x128x4x4 .f32) (x10 x11 x12 : Vec Ideal S128 .f32) (x13 : Vec Ideal S128x512 .f32) (x14 x15 : Vec Ideal S32 .f32)
  (x16 : Vec Ideal S128x32 .f32) (x17 : Vec Ideal S128 .f32) (x18 : Vec Ideal S2 .f32) (x19 : Vec Ideal S128x128 .f32)
  (x20 : Vec Ideal S128x128x3x3 .f32) (x21 x22 : Vec Ideal S128 .f32)

/-- The arguments as families of numbers. -/
def pack : Args where
  s := fun b k y x => x0 (ix4 b k y x)
  q := fun b k y x => x1 (ix4 b k y x)
  mi := fun i k => x2 (ix2 i k)
  modw := fun n k => x3 (ix2 n k)
  modb := fun n => x4 (ix1 n)
  c1w := fun o n => x5 (ix2 o n)
  c1b := fun o => x6 (ix1 o)
  c2w := fun o k => x7 (ix2 o k)
  c2b := fun o => x8 (ix1 o)
  pew := fun o k p q => x9 (ix4 o k p q)
  peb := fun o => x10 (ix1 o)
  peg := fun o => x11 (ix1 o)
  pebeta := fun o => x12 (ix1 o)
  expw := fun k e => x13 (ix2 k e)
  fing := fun e => x14 (ix1 e)
  finb := fun e => x15 (ix1 e)
  upw := fun o e => x16 (ix2 o e)
  upb := fun o => x17 (ix1 o)
  w2 := fun l => x18 (ix1 l)
  wpre := fun o k => x19 (ix2 o k)
  wpost := fun o k di dj => x20 (ix4 o k di dj)
  bng := fun o => x21 (ix1 o)
  bnb := fun o => x22 (ix1 o)

/-- The front at one pixel. -/
theorem front_eq (b : Fin 4) (o : Fin 128) (i : Fin 32) (p : Fin 4) (j : Fin 32) (q : Fin 4) :
    val_main_v32 (F := Ideal) x0 x2 x3 x4 x5 x6 x7 x8 (ix6 b o i p j q)
      = (pack x0 x1 x2 x3 x4 x5 x6 x7 x8 x9 x10 x11 x12 x13 x14 x15 x16 x17 x18 x19 x20 x21 x22).frontR
          (fun c => (pack x0 x1 x2 x3 x4 x5 x6 x7 x8 x9 x10 x11 x12 x13 x14 x15 x16 x17 x18 x19 x20 x21 x22).s b c ⟨i.val * 4 + p.val, by omega⟩ ⟨j.val * 4 + q.val, by omega⟩) o := by
  rw [join_apply]
  unfold Args.frontR
  split
  · rw [top_apply]; rfl
  · rw [bot_apply]; rfl

/-- The embedded patch. -/
theorem emb_eq (b : Fin 4) (i j : Fin 32) (o : Fin 128) :
    val_main_v36 (F := Ideal) x0 x2 x3 x4 x5 x6 x7 x8 x9 x10 (ix4 b i j o) = (pack x0 x1 x2 x3 x4 x5 x6 x7 x8 x9 x10 x11 x12 x13 x14 x15 x16 x17 x18 x19 x20 x21 x22).embR b i j o := by
  rw [embed_apply]
  simp only [front_eq x0 x1 x2 x3 x4 x5 x6 x7 x8 x9 x10 x11 x12 x13 x14 x15 x16 x17 x18 x19 x20 x21 x22]
  rfl

/-- The features of a patch. -/
theorem feat_eq (b : Fin 4) (i j : Fin 32) (o : Fin 128) :
    val_main_v54 (F := Ideal) x0 x2 x3 x4 x5 x6 x7 x8 x9 x10 x11 x12 (ix4 b i j o) = (pack x0 x1 x2 x3 x4 x5 x6 x7 x8 x9 x10 x11 x12 x13 x14 x15 x16 x17 x18 x19 x20 x21 x22).featR b i j o := by
  rw [norm_apply]
  simp only [emb_eq x0 x1 x2 x3 x4 x5 x6 x7 x8 x9 x10 x11 x12 x13 x14 x15 x16 x17 x18 x19 x20 x21 x22]
  rfl

/-- The expanded features of a pixel. -/
theorem exp_eq (b : Fin 4) (y x : Fin 128) (e : Fin 32) :
    val_main_v58 (F := Ideal) x0 x2 x3 x4 x5 x6 x7 x8 x9 x10 x11 x12 x13 (ix4 b y x e) = (pack x0 x1 x2 x3 x4 x5 x6 x7 x8 x9 x10 x11 x12 x13 x14 x15 x16 x17 x18 x19 x20 x21 x22).expR b y x e := by
  rw [shuffle_apply]
  simp only [feat_eq x0 x1 x2 x3 x4 x5 x6 x7 x8 x9 x10 x11 x12 x13 x14 x15 x16 x17 x18 x19 x20 x21 x22]
  rfl

/-- The fused image. -/
theorem fuse_eq (b : Fin 4) (y x o : Fin 128) :
    val_main_v98 (F := Ideal) x0 x1 x2 x3 x4 x5 x6 x7 x8 x9 x10 x11 x12 x13 x14 x15 x16 x17 x18 x19 (ix4 b o y x) = (pack x0 x1 x2 x3 x4 x5 x6 x7 x8 x9 x10 x11 x12 x13 x14 x15 x16 x17 x18 x19 x20 x21 x22).fuseR b y x o := by
  rw [fused_apply, weight_apply, weight_apply]
  simp only [norm2_apply, exp_eq x0 x1 x2 x3 x4 x5 x6 x7 x8 x9 x10 x11 x12 x13 x14 x15 x16 x17 x18 x19 x20 x21 x22]
  rfl

/-- The reference's result. -/
theorem value (b : Fin 4) (o y x : Fin 128) :
    val_main_v165 (F := Ideal) x0 x1 x2 x3 x4 x5 x6 x7 x8 x9 x10 x11 x12 x13 x14 x15 x16 x17 x18 x19 x20 x21 x22 (ix4 b o y x) = (pack x0 x1 x2 x3 x4 x5 x6 x7 x8 x9 x10 x11 x12 x13 x14 x15 x16 x17 x18 x19 x20 x21 x22).outR b o y x := by
  rw [last_apply, taps_apply]
  simp only [fuse_eq x0 x1 x2 x3 x4 x5 x6 x7 x8 x9 x10 x11 x12 x13 x14 x15 x16 x17 x18 x19 x20 x21 x22]
  rfl

end Cert.Value.Ref
end
-- ==== Proof.Value.Algebraic.lean ====
/- The kernel and the reference end with equal results. -/
module

public import proofs.«01_k».proof.Proof.Value.Tame
public import proofs.«01_k».proof.Proof.Value.Reference
public import proofs.«01_k».proof.Proof.Gen.ReferenceIdeal.Run
public import Idealize.ShloMosaic.Lib.Claim

@[expose] public section

noncomputable section

namespace Cert.Value

open Idealize.ShloMosaic Idealize.SL.Sem

section
open Cert.KernelIdeal Cert.KernelIdeal.Gen

variable (m : (ℓ : Loc nD τ sig) → Buf (Elt Ideal) ℓ) (ρ : Dev nD → PrngReg)

/-- The reference's result at the kernel's arguments is what the kernel's last call leaves in its result array. -/
theorem result (h : Cert.Pre_KernelIdeal_tame m) (c : Dev nD) :
    Cert.ReferenceIdeal.Read.val_main_v165 (F := Ideal)
      (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15))
      (m ((c.tc : Thread nD τ).loc main_arg16)) (m ((c.tc : Thread nD τ).loc main_arg17)) (m ((c.tc : Thread nD τ).loc main_arg18)) (m ((c.tc : Thread nD τ).loc main_arg19))
      (m ((c.tc : Thread nD τ).loc main_arg20)) (m ((c.tc : Thread nD τ).loc main_arg21)) (m ((c.tc : Thread nD τ).loc main_arg22))
      = W5 m ρ c (Proc.devRef .tc main_v28) := by
  funext i
  obtain ⟨b, o, y, x, rfl⟩ : ∃ (b : Fin 4) (o y x : Fin 128), i = ix4 b o y x :=
    ⟨i 0, i 1, i 2, i 3, by funext a; fin_cases a <;> rfl⟩
  refine (Ref.value _ _ _ _ _ _ _ _ _ _ _ _ _ _ _ _ _ _ _ _ _ _ _ b o y x).trans
    (Eq.trans ?_ (Kernel.value m ρ c b o y x).symm)
  exact (congrFun (congrFun (congrFun (congrFun (Args.out_agree _ (tame m h c)) b) o) y) x).symm

end

/-- From memories that agree on the arguments, the two programs end with equal results and unchanged arguments. -/
theorem algebraic : Cert.algebraic_KernelIdeal_ReferenceIdeal_pre_tame := by
  intro m ρ m' ρ' hpre hagree
  refine ⟨_, Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v165_eq (StableHlo.launchContents m' c)).trans (Eq.trans ?_ (result m ρ hpre c))
  obtain ⟨h0, h1, h2, h3, h4, h5, h6, h7, h8, h9, h10, h11, h12, h13, h14, h15, h16, h17, h18, h19, h20, h21, h22⟩ := hagree c
  congr 1

end Cert.Value
end
-- ==== Proof.lean ====
/- Everything claimed of the two programs, put together: each ends with its arguments unchanged and its counters at zero, and
   the two results are equal. The mathematics is under Proof/Value, the runs of the kernel under Proof/Frame. -/
module

public import proofs.«01_k».proof.Defs
public import proofs.«01_k».proof.Proof.Frame.Kernel.Run
public import proofs.«01_k».proof.Proof.Frame.KernelIdeal.Run
public import proofs.«01_k».proof.Proof.Gen.ReferenceIdeal.Run
public import proofs.«01_k».proof.Proof.Value.Algebraic
public import Idealize.ShloMosaic.Adequacy
public import Idealize.ShloMosaic.Init

@[expose] public section

noncomputable section

namespace Cert.Proof

open Idealize.ShloMosaic Idealize.SL.Sem

/-- The reference ends with its arguments unchanged; it has no counters to leave standing. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel, its exact reading and the reference keep their arguments, and the kernel's result is the reference's. -/
theorem claim : Cert.Claim :=
  ⟨Cert.Kernel.Gen.facts, Cert.KernelIdeal.Gen.facts, Cert.ReferenceIdeal.Gen.facts, Cert.Value.tameFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Cert.Value.algebraic⟩

end Cert.Proof

end
